-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cameras [hPre_cameras : Cert.Pre_cameras.Facts] (m : (ℓ : Loc Cert.KernelIdeal.nD Cert.KernelIdeal.τ Cert.KernelIdeal.sig) → Buf (Elt Ideal) ℓ) : Prop :=
  ∀ c : Dev Cert.KernelIdeal.nD,
    (Cert.Pre_cameras.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cameras [hPre_cameras : Cert.Pre_cameras.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cameras.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_cameras [hKernelIdeal : Cert.KernelIdeal.Facts] [hPre_cameras : Cert.Pre_cameras.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cameras m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_cameras [hReferenceIdeal : Cert.ReferenceIdeal.Facts] [hPre_cameras : Cert.Pre_cameras.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cameras m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_cameras [hKernelIdeal : Cert.KernelIdeal.Facts] [hReferenceIdeal : Cert.ReferenceIdeal.Facts] [hPre_cameras : Cert.Pre_cameras.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cameras m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_cameras : Cert.Pre_cameras.Facts),
    quiescent_Kernel (hKernel := hKernel)
    ∧ quiescent_KernelIdeal (hKernelIdeal := hKernelIdeal)
    ∧ quiescent_KernelIdeal_pre_cameras (hKernelIdeal := hKernelIdeal) (hPre_cameras := hPre_cameras)
    ∧ quiescent_ReferenceIdeal (hReferenceIdeal := hReferenceIdeal)
    ∧ quiescent_ReferenceIdeal_pre_cameras (hReferenceIdeal := hReferenceIdeal) (hPre_cameras := hPre_cameras)
    ∧ preserves_Kernel_KernelIdeal
    ∧ algebraic_KernelIdeal_ReferenceIdeal_pre_cameras (hKernelIdeal := hKernelIdeal) (hReferenceIdeal := hReferenceIdeal) (hPre_cameras := hPre_cameras)
-- ==== Pre_cameras.lean ====
abbrev S2x32x32x128 : Shape := ⟨4, ![2, 32, 32, 128]⟩
abbrev S2x3x3 : Shape := ⟨3, ![2, 3, 3]⟩
abbrev S2x3 : Shape := ⟨2, ![2, 3]⟩
abbrev S1 : Shape := ⟨1, ![1]⟩
abbrev S2x6x3 : Shape := ⟨3, ![2, 6, 3]⟩
abbrev S2x6x6 : Shape := ⟨3, ![2, 6, 6]⟩
abbrev S2x1x3 : Shape := ⟨3, ![2, 1, 3]⟩
abbrev S_ : Shape := ⟨0, ![]⟩
abbrev S2 : Shape := ⟨1, ![2]⟩
abbrev S2x1x1 : Shape := ⟨3, ![2, 1, 1]⟩
abbrev S2x1 : Shape := ⟨2, ![2, 1]⟩
abbrev S2x3x3x1 : Shape := ⟨4, ![2, 3, 3, 1]⟩
abbrev S2x1x3x3 : Shape := ⟨4, ![2, 1, 3, 3]⟩
abbrev S2x3x3x3 : Shape := ⟨4, ![2, 3, 3, 3]⟩
abbrev S32 : Shape := ⟨1, ![32]⟩
abbrev S32x32 : Shape := ⟨2, ![32, 32]⟩
abbrev S32x32x1 : Shape := ⟨3, ![32, 32, 1]⟩
abbrev S32x32x2 : Shape := ⟨3, ![32, 32, 2]⟩
abbrev S1x32x32x2 : Shape := ⟨4, ![1, 32, 32, 2]⟩
abbrev S1x1024x2 : Shape := ⟨3, ![1, 1024, 2]⟩
abbrev S2x3x1 : Shape := ⟨3, ![2, 3, 1]⟩
abbrev S1x1024x1 : Shape := ⟨3, ![1, 1024, 1]⟩
abbrev S2x1024x3 : Shape := ⟨3, ![2, 1024, 3]⟩
abbrev S2x1024x1 : Shape := ⟨3, ![2, 1024, 1]⟩
abbrev S2x1024 : Shape := ⟨2, ![2, 1024]⟩
abbrev S2x1024x4x32 : Shape := ⟨4, ![2, 1024, 4, 32]⟩
abbrev S2x4x1024x1024 : Shape := ⟨4, ![2, 4, 1024, 1024]⟩

class Facts : Prop where
  concatenates_S2x3x3_S2x3x3_S2x6x3_d1 : Shape.Concatenates [S2x3x3, S2x3x3] S2x6x3 1
  concatenates_S2x6x3_S2x6x3_S2x6x6_d2 : Shape.Concatenates [S2x6x3, S2x6x3] S2x6x6 2
  slices_S2x6x6_S2x3x3_0_1_1 : S2x6x6.Slices ![0, 1, 1] S2x3x3
  slices_S2x6x6_S2x3x3_0_2_2 : S2x6x6.Slices ![0, 2, 2] S2x3x3
  slices_S2x6x6_S2x3x3_0_1_2 : S2x6x6.Slices ![0, 1, 2] S2x3x3
  slices_S2x6x6_S2x3x3_0_2_1 : S2x6x6.Slices ![0, 2, 1] S2x3x3
  slices_S2x3x3_S2x1x3_0_0_0 : S2x3x3.Slices ![0, 0, 0] S2x1x3
  shapeCasts_S2x1x3_S2x3 : S2x1x3.ShapeCasts S2x3
  reducesTo_S2x3_S2_d1 : S2x3.ReducesTo [1] S2
  h_S_ : 0 < S_.numel
  transposes_S2x3x3_S2x3x3_0_2_1 : S2x3x3.Transposes [0, 2, 1] S2x3x3
  bcast_S_S2 : S_.BroadcastsInDim S2 (![] : Fin 0 → Fin S2.rank)
  bcast_S2_S2x1x1_0 : S2.BroadcastsInDim S2x1x1 (![0] : Fin 1 → Fin S2x1x1.rank)
  bcast_S2x1x1_S2x3x3_0_1_2 : S2x1x1.BroadcastsInDim S2x3x3 (![0, 1, 2] : Fin 3 → Fin S2x3x3.rank)
  slices_S2x3_S2x1_0_0 : S2x3.Slices ![0, 0] S2x1
  shapeCasts_S2x1_S2 : S2x1.ShapeCasts S2
  slices_S2x3_S2x1_0_2 : S2x3.Slices ![0, 2] S2x1
  slices_S2x3_S2x1_0_1 : S2x3.Slices ![0, 1] S2x1
  bcast_S2_S2x1_0 : S2.BroadcastsInDim S2x1 (![0] : Fin 1 → Fin S2x1.rank)
  concatenates_S2x1_S2x1_S2x1_S2x3_d1 : Shape.Concatenates [S2x1, S2x1, S2x1] S2x3 1
  bcast_S2x3_S2x1x3_0_2 : S2x3.BroadcastsInDim S2x1x3 (![0, 2] : Fin 2 → Fin S2x1x3.rank)
  concatenates_S2x1x3_S2x1x3_S2x1x3_S2x3x3_d1 : Shape.Concatenates [S2x1x3, S2x1x3, S2x1x3] S2x3x3 1
  bcast_S2x3x3_S2x3x3x1_0_1_2 : S2x3x3.BroadcastsInDim S2x3x3x1 (![0, 1, 2] : Fin 3 → Fin S2x3x3x1.rank)
  bcast_S2x3x3_S2x1x3x3_0_2_3 : S2x3x3.BroadcastsInDim S2x1x3x3 (![0, 2, 3] : Fin 3 → Fin S2x1x3x3.rank)
  bcast_S2x3x3x1_S2x3x3x3_0_1_2_3 : S2x3x3x1.BroadcastsInDim S2x3x3x3 (![0, 1, 2, 3] : Fin 4 → Fin S2x3x3x3.rank)
  bcast_S2x1x3x3_S2x3x3x3_0_1_2_3 : S2x1x3x3.BroadcastsInDim S2x3x3x3 (![0, 1, 2, 3] : Fin 4 → Fin S2x3x3x3.rank)
  reducesTo_S2x3x3x3_S2x3x3_d2 : S2x3x3x3.ReducesTo [2] S2x3x3
  bcast_S32_S32x32_0 : S32.BroadcastsInDim S32x32 (![0] : Fin 1 → Fin S32x32.rank)
  bcast_S32_S32x32_1 : S32.BroadcastsInDim S32x32 (![1] : Fin 1 → Fin S32x32.rank)
  bcast_S32x32_S32x32x1_0_1 : S32x32.BroadcastsInDim S32x32x1 (![0, 1] : Fin 2 → Fin S32x32x1.rank)
  concatenates_S32x32x1_S32x32x1_S32x32x2_d2 : Shape.Concatenates [S32x32x1, S32x32x1] S32x32x2 2
  bcast_S32x32x2_S1x32x32x2_1_2_3 : S32x32x2.BroadcastsInDim S1x32x32x2 (![1, 2, 3] : Fin 3 → Fin S1x32x32x2.rank)
  shapeCasts_S1x32x32x2_S1x1024x2 : S1x32x32x2.ShapeCasts S1x1024x2
  slices_S2x3x3_S2x3x1_0_0_0 : S2x3x3.Slices ![0, 0, 0] S2x3x1
  shapeCasts_S2x3x1_S2x3 : S2x3x1.ShapeCasts S2x3
  slices_S1x1024x2_S1x1024x1_0_0_0 : S1x1024x2.Slices ![0, 0, 0] S1x1024x1
  bcast_S2x1x3_S2x1024x3_0_1_2 : S2x1x3.BroadcastsInDim S2x1024x3 (![0, 1, 2] : Fin 3 → Fin S2x1024x3.rank)
  bcast_S1x1024x1_S2x1024x3_0_1_2 : S1x1024x1.BroadcastsInDim S2x1024x3 (![0, 1, 2] : Fin 3 → Fin S2x1024x3.rank)
  slices_S2x3x3_S2x3x1_0_0_1 : S2x3x3.Slices ![0, 0, 1] S2x3x1
  slices_S1x1024x2_S1x1024x1_0_0_1 : S1x1024x2.Slices ![0, 0, 1] S1x1024x1
  slices_S2x3x3_S2x3x1_0_0_2 : S2x3x3.Slices ![0, 0, 2] S2x3x1
  slices_S2x1024x3_S2x1024x1_0_0_0 : S2x1024x3.Slices ![0, 0, 0] S2x1024x1
  shapeCasts_S2x1024x1_S2x1024 : S2x1024x1.ShapeCasts S2x1024
  slices_S2x1024x3_S2x1024x1_0_0_1 : S2x1024x3.Slices ![0, 0, 1] S2x1024x1
  slices_S2x1024x3_S2x1024x1_0_0_2 : S2x1024x3.Slices ![0, 0, 2] S2x1024x1
  shapeCasts_S2x32x32x128_S2x1024x4x32 : S2x32x32x128.ShapeCasts S2x1024x4x32
  reducesTo_S2_S_d0 : S2.ReducesTo [0] S_
  bcast_S_S2x1024x3 : S_.BroadcastsInDim S2x1024x3 (![] : Fin 0 → Fin S2x1024x3.rank)
  reducesTo_S2x1024x3_S_d0_1_2 : S2x1024x3.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x4x1024x1024 : S_.BroadcastsInDim S2x4x1024x1024 (![] : Fin 0 → Fin S2x4x1024x1024.rank)
  reducesTo_S2x4x1024x1024_S_d0_1_2_3 : S2x4x1024x1024.ReducesTo [0, 1, 2, 3] S_
  dot_S2x1024x4x32_S2x1024x4x32_S2x4x1024x1024_3_3_1_1_02_02_wf : DotDims.WF S2x1024x4x32 S2x1024x4x32 S2x4x1024x1024 [3] [3] [1] [1] [0, 2] [0, 2]

variable [Facts]

def dot_S2x1024x4x32_S2x1024x4x32_S2x4x1024x1024_3_3_1_1_02_02 : DotDims S2x1024x4x32 S2x1024x4x32 S2x4x1024x1024 where
  lhsContracting := [3]
  rhsContracting := [3]
  lhsNonContracting := [1]
  rhsNonContracting := [1]
  lhsBatch := [0, 2]
  rhsBatch := [0, 2]
  wf := dot_S2x1024x4x32_S2x1024x4x32_S2x4x1024x1024_3_3_1_1_02_02_wf
def fn_part7 {F : FTy → Type} [FloatOps F] (main_v132 : FVec F S2x4x1024x1024 .f32) (main_v143 : IVec S_ 1) (main_v152 : IVec S_ 1) : IVec S_ 1 :=
  let main_v153 : IVec S_ 1 := andi main_v143 main_v152
  let main_cst_13 : FVec F S_ .f32 := constant S_ .f32 0xC3C30000#32
  let main_v154 : FVec F S2x4x1024x1024 .f32 := broadcastInDim S2x4x1024x1024 ![] bcast_S_S2x4x1024x1024 main_cst_13
  let main_v155 : IVec S2x4x1024x1024 1 := cmpf .oge main_v132 main_v154
  let main_cst_14 : FVec F S_ .f32 := constant S_ .f32 0x7F800000#32
  let main_v156 : FVec F S2x4x1024x1024 .f32 := broadcastInDim S2x4x1024x1024 ![] bcast_S_S2x4x1024x1024 main_cst_14
  let main_v157 : IVec S2x4x1024x1024 1 := cmpf .olt main_v132 main_v156
  let main_v158 : IVec S2x4x1024x1024 1 := andi main_v155 main_v157
  let main_c_15 : IVec S_ 1 := constantI S_ 1 1#1
  let main_v159 : IVec S_ 1 := (fun x v => Host.reduce IntOp.andi x v reducesTo_S2x4x1024x1024_S_d0_1_2_3 h_S_) main_v158 main_c_15
  let main_v160 : IVec S_ 1 := andi main_v153 main_v159
  main_v160

def fn_part6 {F : FTy → Type} [FloatOps F] (main_v123 : FVec F S2x1024x3 .f32) (main_v125 : FVec F S2x1024 .f32) (main_v127 : FVec F S2x1024 .f32) (main_v129 : FVec F S2x1024 .f32) (main_v132 : FVec F S2x4x1024x1024 .f32) (main_v135 : FVec F S2 .f32) : IVec S_ 1 :=
  let main_cst_7 : FVec F S_ .f32 := constant S_ .f32 0x7F800000#32
  let main_v136 : FVec F S2 .f32 := broadcastInDim S2 ![] bcast_S_S2 main_cst_7
  let main_v137 : IVec S2 1 := cmpf .olt main_v135 main_v136
  let main_c : IVec S_ 1 := constantI S_ 1 1#1
  let main_v138 : IVec S_ 1 := (fun x v => Host.reduce IntOp.andi x v reducesTo_S2_S_d0 h_S_) main_v137 main_c
  let main_v139 : FVec F S2x1024x3 .f32 := Host.absf main_v123
  let main_cst_8 : FVec F S_ .f32 := constant S_ .f32 0x7F800000#32
  let main_v140 : FVec F S2x1024x3 .f32 := broadcastInDim S2x1024x3 ![] bcast_S_S2x1024x3 main_cst_8
  let main_v141 : IVec S2x1024x3 1 := cmpf .olt main_v139 main_v140
  let main_c_9 : IVec S_ 1 := constantI S_ 1 1#1
  let main_v142 : IVec S_ 1 := (fun x v => Host.reduce IntOp.andi x v reducesTo_S2x1024x3_S_d0_1_2 h_S_) main_v141 main_c_9
  let main_v143 : IVec S_ 1 := andi main_v138 main_v142
  let main_cst_10 : FVec F S_ .f32 := constant S_ .f32 0x00000000#32
  let main_v144 : FVec F S2x1024 .f32 := broadcastInDim S2x1024 ![] bcast_S_S2x1024 main_cst_10
  let main_v145 : IVec S2x1024 1 := cmpf .une main_v125 main_v144
  let main_v146 : FVec F S2x1024 .f32 := Host.absf main_v129
  let main_v147 : FVec F S2x1024 .f32 := Host.absf main_v127
  let main_cst_11 : FVec F S_ .f32 := constant S_ .f32 0x40000000#32
  let main_v148 : FVec F S2x1024 .f32 := broadcastInDim S2x1024 ![] bcast_S_S2x1024 main_cst_11
  let main_v149 : FVec F S2x1024 .f32 := mulf main_v148 main_v147
  let main_v150 : IVec S2x1024 1 := cmpf .oge main_v146 main_v149
  let main_v151 : IVec S2x1024 1 := ori main_v145 main_v150
  let main_c_12 : IVec S_ 1 := constantI S_ 1 1#1
  let main_v152 : IVec S_ 1 := (fun x v => Host.reduce IntOp.andi x v reducesTo_S2x1024_S_d0_1 h_S_) main_v151 main_c_12
  fn_part7 (F := F) main_v132 main_v143 main_v152

def fn_part5 {F : FTy → Type} [FloatOps F] (main_arg0 : FVec F S2x32x32x128 .f32) (main_arg1 : FVec F S2x32x32x128 .f32) (main_arg6 : FVec F S2x3 .f32) (main_v94 : FVec F S2x3x3 .f32) (main_v103 : FVec F S1x1024x2 .f32) (main_v110 : FVec F S2x1024x3 .f32) (main_v111 : FVec F S2x3x1 .f32) : IVec S_ 1 :=
  let main_v112 : FVec F S2x3 .f32 := shapeCast S2x3 main_v111 shapeCasts_S2x3x1_S2x3
  let main_v113 : FVec F S2x1x3 .f32 := broadcastInDim S2x1x3 ![0, 2] bcast_S2x3_S2x1x3_0_2 main_v112
  let main_v114 : FVec F S1x1024x1 .f32 := (extractStridedSlice S1x1024x1 ![0, 0, 1] · slices_S1x1024x2_S1x1024x1_0_0_1) main_v103
  let main_v115 : FVec F S2x1024x3 .f32 := broadcastInDim S2x1024x3 ![0, 1, 2] bcast_S2x1x3_S2x1024x3_0_1_2 main_v113
  let main_v116 : FVec F S2x1024x3 .f32 := broadcastInDim S2x1024x3 ![0, 1, 2] bcast_S1x1024x1_S2x1024x3_0_1_2 main_v114
  let main_v117 : FVec F S2x1024x3 .f32 := mulf main_v115 main_v116
  let main_v118 : FVec F S2x1024x3 .f32 := addf main_v110 main_v117
  let main_v119 : FVec F S2x3x1 .f32 := (extractStridedSlice S2x3x1 ![0, 0, 2] · slices_S2x3x3_S2x3x1_0_0_2) main_v94
  let main_v120 : FVec F S2x3 .f32 := shapeCast S2x3 main_v119 shapeCasts_S2x3x1_S2x3
  let main_v121 : FVec F S2x1x3 .f32 := broadcastInDim S2x1x3 ![0, 2] bcast_S2x3_S2x1x3_0_2 main_v120
  let main_v122 : FVec F S2x1024x3 .f32 := broadcastInDim S2x1024x3 ![0, 1, 2] bcast_S2x1x3_S2x1024x3_0_1_2 main_v121
  let main_v123 : FVec F S2x1024x3 .f32 := addf main_v118 main_v122
  let main_v124 : FVec F S2x1024x1 .f32 := (extractStridedSlice S2x1024x1 ![0, 0, 0] · slices_S2x1024x3_S2x1024x1_0_0_0) main_v123
  let main_v125 : FVec F S2x1024 .f32 := shapeCast S2x1024 main_v124 shapeCasts_S2x1024x1_S2x1024
  let main_v126 : FVec F S2x1024x1 .f32 := (extractStridedSlice S2x1024x1 ![0, 0, 1] · slices_S2x1024x3_S2x1024x1_0_0_1) main_v123
  let main_v127 : FVec F S2x1024 .f32 := shapeCast S2x1024 main_v126 shapeCasts_S2x1024x1_S2x1024
  let main_v128 : FVec F S2x1024x1 .f32 := (extractStridedSlice S2x1024x1 ![0, 0, 2] · slices_S2x1024x3_S2x1024x1_0_0_2) main_v123
  let main_v129 : FVec F S2x1024 .f32 := shapeCast S2x1024 main_v128 shapeCasts_S2x1024x1_S2x1024
  let main_v130 : FVec F S2x1024x4x32 .f32 := shapeCast S2x1024x4x32 main_arg0 shapeCasts_S2x32x32x128_S2x1024x4x32
  let main_v131 : FVec F S2x1024x4x32 .f32 := shapeCast S2x1024x4x32 main_arg1 shapeCasts_S2x32x32x128_S2x1024x4x32
  let main_v132 : FVec F S2x4x1024x1024 .f32 := (fun l r => Host.dotGeneral dot_S2x1024x4x32_S2x1024x4x32_S2x4x1024x1024_3_3_1_1_02_02 none l r) main_v130 main_v131
  let main_v133 : FVec F S2x1 .f32 := (extractStridedSlice S2x1 ![0, 0] · slices_S2x3_S2x1_0_0) main_arg6
  let main_v134 : FVec F S2 .f32 := shapeCast S2 main_v133 shapeCasts_S2x1_S2
  let main_v135 : FVec F S2 .f32 := Host.absf main_v134
  fn_part6 (F := F) main_v123 main_v125 main_v127 main_v129 main_v132 main_v135

def fn_part4 {F : FTy → Type} [FloatOps F] (main_arg0 : FVec F S2x32x32x128 .f32) (main_arg1 : FVec F S2x32x32x128 .f32) (main_arg6 : FVec F S2x3 .f32) (main_v21 : FVec F S2x3x3 .f32) (main_v88 : FVec F S2x3x3 .f32) : IVec S_ 1 :=
  let main_v89 : FVec F S2x3x3x1 .f32 := broadcastInDim S2x3x3x1 ![0, 1, 2] bcast_S2x3x3_S2x3x3x1_0_1_2 main_v21
  let main_v90 : FVec F S2x1x3x3 .f32 := broadcastInDim S2x1x3x3 ![0, 2, 3] bcast_S2x3x3_S2x1x3x3_0_2_3 main_v88
  let main_v91 : FVec F S2x3x3x3 .f32 := broadcastInDim S2x3x3x3 ![0, 1, 2, 3] bcast_S2x3x3x1_S2x3x3x3_0_1_2_3 main_v89
  let main_v92 : FVec F S2x3x3x3 .f32 := broadcastInDim S2x3x3x3 ![0, 1, 2, 3] bcast_S2x1x3x3_S2x3x3x3_0_1_2_3 main_v90
  let main_v93 : FVec F S2x3x3x3 .f32 := mulf main_v91 main_v92
  let main_cst_6 : FVec F S_ .f32 := constant S_ .f32 0x00000000#32
  let main_v94 : FVec F S2x3x3 .f32 := (fun x v => Host.reduceAdd x v reducesTo_S2x3x3x3_S2x3x3_d2 h_S_) main_v93 main_cst_6
  let main_v95 : FVec F S32 .f32 := sitofp .f32 (iotaInDim S32 32 0)
  let main_v96 : FVec F S32 .f32 := sitofp .f32 (iotaInDim S32 32 0)
  let main_v97 : FVec F S32x32 .f32 := broadcastInDim S32x32 ![0] bcast_S32_S32x32_0 main_v96
  let main_v98 : FVec F S32x32 .f32 := broadcastInDim S32x32 ![1] bcast_S32_S32x32_1 main_v95
  let main_v99 : FVec F S32x32x1 .f32 := broadcastInDim S32x32x1 ![0, 1] bcast_S32x32_S32x32x1_0_1 main_v98
  let main_v100 : FVec F S32x32x1 .f32 := broadcastInDim S32x32x1 ![0, 1] bcast_S32x32_S32x32x1_0_1 main_v97
  let main_v101 : FVec F S32x32x2 .f32 := (fun a b => concatenate S32x32x2 2 [⟨S32x32x1, a⟩, ⟨S32x32x1, b⟩] concatenates_S32x32x1_S32x32x1_S32x32x2_d2) main_v99 main_v100
  let main_v102 : FVec F S1x32x32x2 .f32 := broadcastInDim S1x32x32x2 ![1, 2, 3] bcast_S32x32x2_S1x32x32x2_1_2_3 main_v101
  let main_v103 : FVec F S1x1024x2 .f32 := shapeCast S1x1024x2 main_v102 shapeCasts_S1x32x32x2_S1x1024x2
  let main_v104 : FVec F S2x3x1 .f32 := (extractStridedSlice S2x3x1 ![0, 0, 0] · slices_S2x3x3_S2x3x1_0_0_0) main_v94
  let main_v105 : FVec F S2x3 .f32 := shapeCast S2x3 main_v104 shapeCasts_S2x3x1_S2x3
  let main_v106 : FVec F S2x1x3 .f32 := broadcastInDim S2x1x3 ![0, 2] bcast_S2x3_S2x1x3_0_2 main_v105
  let main_v107 : FVec F S1x1024x1 .f32 := (extractStridedSlice S1x1024x1 ![0, 0, 0] · slices_S1x1024x2_S1x1024x1_0_0_0) main_v103
  let main_v108 : FVec F S2x1024x3 .f32 := broadcastInDim S2x1024x3 ![0, 1, 2] bcast_S2x1x3_S2x1024x3_0_1_2 main_v106
  let main_v109 : FVec F S2x1024x3 .f32 := broadcastInDim S2x1024x3 ![0, 1, 2] bcast_S1x1024x1_S2x1024x3_0_1_2 main_v107
  let main_v110 : FVec F S2x1024x3 .f32 := mulf main_v108 main_v109
  let main_v111 : FVec F S2x3x1 .f32 := (extractStridedSlice S2x3x1 ![0, 0, 1] · slices_S2x3x3_S2x3x1_0_0_1) main_v94
  fn_part5 (F := F) main_arg0 main_arg1 main_arg6 main_v94 main_v103 main_v110 main_v111

def fn_part3 {F : FTy → Type} [FloatOps F] (main_arg0 : FVec F S2x32x32x128 .f32) (main_arg1 : FVec F S2x32x32x128 .f32) (main_arg3 : FVec F S2x3x3 .f32) (main_arg6 : FVec F S2x3 .f32) (main_v21 : FVec F S2x3x3 .f32) (main_v61 : FVec F S2x3x3 .f32) (main_v63 : FVec F S2x6x6 .f32) (main_v66 : FVec F S2x3x3 .f32) (main_v67 : FVec F S2x3x3 .f32) : IVec S_ 1 :=
  let main_v68 : FVec F S2x3x3 .f32 := (extractStridedSlice S2x3x3 ![0, 2, 1] · slices_S2x6x6_S2x3x3_0_2_1) main_v63
  let main_v69 : FVec F S2x3x3 .f32 := mulf main_v67 main_v68
  let main_v70 : FVec F S2x3x3 .f32 := subf main_v66 main_v69
  let main_v71 : FVec F S2x1x3 .f32 := (extractStridedSlice S2x1x3 ![0, 0, 0] · slices_S2x3x3_S2x1x3_0_0_0) main_arg3
  let main_v72 : FVec F S2x3 .f32 := shapeCast S2x3 main_v71 shapeCasts_S2x1x3_S2x3
  let main_v73 : FVec F S2x1x3 .f32 := (extractStridedSlice S2x1x3 ![0, 0, 0] · slices_S2x3x3_S2x1x3_0_0_0) main_v70
  let main_v74 : FVec F S2x3 .f32 := shapeCast S2x3 main_v73 shapeCasts_S2x1x3_S2x3
  let main_v75 : FVec F S2x3 .f32 := mulf main_v72 main_v74
  let main_cst_3 : FVec F S_ .f32 := constant S_ .f32 0x00000000#32
  let main_v76 : FVec F S2 .f32 := (fun x v => Host.reduceAdd x v reducesTo_S2x3_S2_d1 h_S_) main_v75 main_cst_3
  let main_v77 : FVec F S2x3x3 .f32 := (transpose S2x3x3 [0, 2, 1] · transposes_S2x3x3_S2x3x3_0_2_1) main_v70
  let main_cst_4 : FVec F S_ .f32 := constant S_ .f32 0x3F800000#32
  let main_v78 : FVec F S2 .f32 := broadcastInDim S2 ![] bcast_S_S2 main_cst_4
  let main_v79 : FVec F S2 .f32 := Host.divf main_v78 main_v76
  let main_v80 : FVec F S2x1x1 .f32 := broadcastInDim S2x1x1 ![0] bcast_S2_S2x1x1_0 main_v79
  let main_v81 : FVec F S2x3x3 .f32 := broadcastInDim S2x3x3 ![0, 1, 2] bcast_S2x1x1_S2x3x3_0_1_2 main_v80
  let main_v82 : FVec F S2x3x3 .f32 := mulf main_v77 main_v81
  let main_v83 : FVec F S2x3x3x1 .f32 := broadcastInDim S2x3x3x1 ![0, 1, 2] bcast_S2x3x3_S2x3x3x1_0_1_2 main_v61
  let main_v84 : FVec F S2x1x3x3 .f32 := broadcastInDim S2x1x3x3 ![0, 2, 3] bcast_S2x3x3_S2x1x3x3_0_2_3 main_v82
  let main_v85 : FVec F S2x3x3x3 .f32 := broadcastInDim S2x3x3x3 ![0, 1, 2, 3] bcast_S2x3x3x1_S2x3x3x3_0_1_2_3 main_v83
  let main_v86 : FVec F S2x3x3x3 .f32 := broadcastInDim S2x3x3x3 ![0, 1, 2, 3] bcast_S2x1x3x3_S2x3x3x3_0_1_2_3 main_v84
  let main_v87 : FVec F S2x3x3x3 .f32 := mulf main_v85 main_v86
  let main_cst_5 : FVec F S_ .f32 := constant S_ .f32 0x00000000#32
  let main_v88 : FVec F S2x3x3 .f32 := (fun x v => Host.reduceAdd x v reducesTo_S2x3x3x3_S2x3x3_d2 h_S_) main_v87 main_cst_5
  fn_part4 (F := F) main_arg0 main_arg1 main_arg6 main_v21 main_v88

def fn_part2 {F : FTy → Type} [FloatOps F] (main_arg0 : FVec F S2x32x32x128 .f32) (main_arg1 : FVec F S2x32x32x128 .f32) (main_arg3 : FVec F S2x3x3 .f32) (main_arg5 : FVec F S2x3x3 .f32) (main_arg6 : FVec F S2x3 .f32) (main_v21 : FVec F S2x3x3 .f32) (main_v24 : FVec F S2 .f32) (main_v33 : FVec F S2x3 .f32) (main_v42 : FVec F S2x3 .f32) (main_v44 : FVec F S2 .f32) : IVec S_ 1 :=
  let main_v45 : FVec F S2 .f32 := Host.negf main_v44
  let main_v46 : FVec F S2x1 .f32 := (extractStridedSlice S2x1 ![0, 0] · slices_S2x3_S2x1_0_0) main_arg6
  let main_v47 : FVec F S2 .f32 := shapeCast S2 main_v46 shapeCasts_S2x1_S2
  let main_v48 : FVec F S2x1 .f32 := broadcastInDim S2x1 ![0] bcast_S2_S2x1_0 main_v45
  let main_v49 : FVec F S2x1 .f32 := broadcastInDim S2x1 ![0] bcast_S2_S2x1_0 main_v47
  let main_v50 : FVec F S2x1 .f32 := broadcastInDim S2x1 ![0] bcast_S2_S2x1_0 main_v24
  let main_v51 : FVec F S2x3 .f32 := concatenate S2x3 1 [⟨S2x1, main_v48⟩, ⟨S2x1, main_v49⟩, ⟨S2x1, main_v50⟩] concatenates_S2x1_S2x1_S2x1_S2x3_d1
  let main_v52 : FVec F S2x1x3 .f32 := broadcastInDim S2x1x3 ![0, 2] bcast_S2x3_S2x1x3_0_2 main_v33
  let main_v53 : FVec F S2x1x3 .f32 := broadcastInDim S2x1x3 ![0, 2] bcast_S2x3_S2x1x3_0_2 main_v42
  let main_v54 : FVec F S2x1x3 .f32 := broadcastInDim S2x1x3 ![0, 2] bcast_S2x3_S2x1x3_0_2 main_v51
  let main_v55 : FVec F S2x3x3 .f32 := concatenate S2x3x3 1 [⟨S2x1x3, main_v52⟩, ⟨S2x1x3, main_v53⟩, ⟨S2x1x3, main_v54⟩] concatenates_S2x1x3_S2x1x3_S2x1x3_S2x3x3_d1
  let main_v56 : FVec F S2x3x3x1 .f32 := broadcastInDim S2x3x3x1 ![0, 1, 2] bcast_S2x3x3_S2x3x3x1_0_1_2 main_v55
  let main_v57 : FVec F S2x1x3x3 .f32 := broadcastInDim S2x1x3x3 ![0, 2, 3] bcast_S2x3x3_S2x1x3x3_0_2_3 main_arg5
  let main_v58 : FVec F S2x3x3x3 .f32 := broadcastInDim S2x3x3x3 ![0, 1, 2, 3] bcast_S2x3x3x1_S2x3x3x3_0_1_2_3 main_v56
  let main_v59 : FVec F S2x3x3x3 .f32 := broadcastInDim S2x3x3x3 ![0, 1, 2, 3] bcast_S2x1x3x3_S2x3x3x3_0_1_2_3 main_v57
  let main_v60 : FVec F S2x3x3x3 .f32 := mulf main_v58 main_v59
  let main_cst_2 : FVec F S_ .f32 := constant S_ .f32 0x00000000#32
  let main_v61 : FVec F S2x3x3 .f32 := (fun x v => Host.reduceAdd x v reducesTo_S2x3x3x3_S2x3x3_d2 h_S_) main_v60 main_cst_2
  let main_v62 : FVec F S2x6x3 .f32 := (fun a b => concatenate S2x6x3 1 [⟨S2x3x3, a⟩, ⟨S2x3x3, b⟩] concatenates_S2x3x3_S2x3x3_S2x6x3_d1) main_arg3 main_arg3
  let main_v63 : FVec F S2x6x6 .f32 := (fun a b => concatenate S2x6x6 2 [⟨S2x6x3, a⟩, ⟨S2x6x3, b⟩] concatenates_S2x6x3_S2x6x3_S2x6x6_d2) main_v62 main_v62
  let main_v64 : FVec F S2x3x3 .f32 := (extractStridedSlice S2x3x3 ![0, 1, 1] · slices_S2x6x6_S2x3x3_0_1_1) main_v63
  let main_v65 : FVec F S2x3x3 .f32 := (extractStridedSlice S2x3x3 ![0, 2, 2] · slices_S2x6x6_S2x3x3_0_2_2) main_v63
  let main_v66 : FVec F S2x3x3 .f32 := mulf main_v64 main_v65
  let main_v67 : FVec F S2x3x3 .f32 := (extractStridedSlice S2x3x3 ![0, 1, 2] · slices_S2x6x6_S2x3x3_0_1_2) main_v63
  fn_part3 (F := F) main_arg0 main_arg1 main_arg3 main_arg6 main_v21 main_v61 main_v63 main_v66 main_v67

def fn_part1 {F : FTy → Type} [FloatOps F] (main_arg0 : FVec F S2x32x32x128 .f32) (main_arg1 : FVec F S2x32x32x128 .f32) (main_arg3 : FVec F S2x3x3 .f32) (main_arg5 : FVec F S2x3x3 .f32) (main_arg6 : FVec F S2x3 .f32) (main_v21 : FVec F S2x3x3 .f32) : IVec S_ 1 :=
  let main_v22 : FVec F S2x1 .f32 := (extractStridedSlice S2x1 ![0, 0] · slices_S2x3_S2x1_0_0) main_arg6
  let main_v23 : FVec F S2 .f32 := shapeCast S2 main_v22 shapeCasts_S2x1_S2
  let main_cst_1 : FVec F S_ .f32 := constant S_ .f32 0x00000000#32
  let main_v24 : FVec F S2 .f32 := broadcastInDim S2 ![] bcast_S_S2 main_cst_1
  let main_v25 : FVec F S2x1 .f32 := (extractStridedSlice S2x1 ![0, 2] · slices_S2x3_S2x1_0_2) main_arg6
  let main_v26 : FVec F S2 .f32 := shapeCast S2 main_v25 shapeCasts_S2x1_S2
  let main_v27 : FVec F S2 .f32 := Host.negf main_v26
  let main_v28 : FVec F S2x1 .f32 := (extractStridedSlice S2x1 ![0, 1] · slices_S2x3_S2x1_0_1) main_arg6
  let main_v29 : FVec F S2 .f32 := shapeCast S2 main_v28 shapeCasts_S2x1_S2
  let main_v30 : FVec F S2x1 .f32 := broadcastInDim S2x1 ![0] bcast_S2_S2x1_0 main_v24
  let main_v31 : FVec F S2x1 .f32 := broadcastInDim S2x1 ![0] bcast_S2_S2x1_0 main_v27
  let main_v32 : FVec F S2x1 .f32 := broadcastInDim S2x1 ![0] bcast_S2_S2x1_0 main_v29
  let main_v33 : FVec F S2x3 .f32 := concatenate S2x3 1 [⟨S2x1, main_v30⟩, ⟨S2x1, main_v31⟩, ⟨S2x1, main_v32⟩] concatenates_S2x1_S2x1_S2x1_S2x3_d1
  let main_v34 : FVec F S2x1 .f32 := (extractStridedSlice S2x1 ![0, 2] · slices_S2x3_S2x1_0_2) main_arg6
  let main_v35 : FVec F S2 .f32 := shapeCast S2 main_v34 shapeCasts_S2x1_S2
  let main_v36 : FVec F S2x1 .f32 := (extractStridedSlice S2x1 ![0, 0] · slices_S2x3_S2x1_0_0) main_arg6
  let main_v37 : FVec F S2 .f32 := shapeCast S2 main_v36 shapeCasts_S2x1_S2
  let main_v38 : FVec F S2 .f32 := Host.negf main_v37
  let main_v39 : FVec F S2x1 .f32 := broadcastInDim S2x1 ![0] bcast_S2_S2x1_0 main_v35
  let main_v40 : FVec F S2x1 .f32 := broadcastInDim S2x1 ![0] bcast_S2_S2x1_0 main_v24
  let main_v41 : FVec F S2x1 .f32 := broadcastInDim S2x1 ![0] bcast_S2_S2x1_0 main_v38
  let main_v42 : FVec F S2x3 .f32 := concatenate S2x3 1 [⟨S2x1, main_v39⟩, ⟨S2x1, main_v40⟩, ⟨S2x1, main_v41⟩] concatenates_S2x1_S2x1_S2x1_S2x3_d1
  let main_v43 : FVec F S2x1 .f32 := (extractStridedSlice S2x1 ![0, 1] · slices_S2x3_S2x1_0_1) main_arg6
  let main_v44 : FVec F S2 .f32 := shapeCast S2 main_v43 shapeCasts_S2x1_S2
  fn_part2 (F := F) main_arg0 main_arg1 main_arg3 main_arg5 main_arg6 main_v21 main_v24 main_v33 main_v42 main_v44

def fn {F : FTy → Type} [FloatOps F] (main_arg0 : FVec F S2x32x32x128 .f32) (main_arg1 : FVec F S2x32x32x128 .f32) (main_arg2 : FVec F S2x32x32x128 .f32) (main_arg3 : FVec F S2x3x3 .f32) (main_arg4 : FVec F S2x3x3 .f32) (main_arg5 : FVec F S2x3x3 .f32) (main_arg6 : FVec F S2x3 .f32) (main_arg7 : FVec F S1 .f32) : IVec S_ 1 :=
  let main_v0 : FVec F S2x6x3 .f32 := (fun a b => concatenate S2x6x3 1 [⟨S2x3x3, a⟩, ⟨S2x3x3, b⟩] concatenates_S2x3x3_S2x3x3_S2x6x3_d1) main_arg4 main_arg4
  let main_v1 : FVec F S2x6x6 .f32 := (fun a b => concatenate S2x6x6 2 [⟨S2x6x3, a⟩, ⟨S2x6x3, b⟩] concatenates_S2x6x3_S2x6x3_S2x6x6_d2) main_v0 main_v0
  let main_v2 : FVec F S2x3x3 .f32 := (extractStridedSlice S2x3x3 ![0, 1, 1] · slices_S2x6x6_S2x3x3_0_1_1) main_v1
  let main_v3 : FVec F S2x3x3 .f32 := (extractStridedSlice S2x3x3 ![0, 2, 2] · slices_S2x6x6_S2x3x3_0_2_2) main_v1
  let main_v4 : FVec F S2x3x3 .f32 := mulf main_v2 main_v3
  let main_v5 : FVec F S2x3x3 .f32 := (extractStridedSlice S2x3x3 ![0, 1, 2] · slices_S2x6x6_S2x3x3_0_1_2) main_v1
  let main_v6 : FVec F S2x3x3 .f32 := (extractStridedSlice S2x3x3 ![0, 2, 1] · slices_S2x6x6_S2x3x3_0_2_1) main_v1
  let main_v7 : FVec F S2x3x3 .f32 := mulf main_v5 main_v6
  let main_v8 : FVec F S2x3x3 .f32 := subf main_v4 main_v7
  let main_v9 : FVec F S2x1x3 .f32 := (extractStridedSlice S2x1x3 ![0, 0, 0] · slices_S2x3x3_S2x1x3_0_0_0) main_arg4
  let main_v10 : FVec F S2x3 .f32 := shapeCast S2x3 main_v9 shapeCasts_S2x1x3_S2x3
  let main_v11 : FVec F S2x1x3 .f32 := (extractStridedSlice S2x1x3 ![0, 0, 0] · slices_S2x3x3_S2x1x3_0_0_0) main_v8
  let main_v12 : FVec F S2x3 .f32 := shapeCast S2x3 main_v11 shapeCasts_S2x1x3_S2x3
  let main_v13 : FVec F S2x3 .f32 := mulf main_v10 main_v12
  let main_cst : FVec F S_ .f32 := constant S_ .f32 0x00000000#32
  let main_v14 : FVec F S2 .f32 := (fun x v => Host.reduceAdd x v reducesTo_S2x3_S2_d1 h_S_) main_v13 main_cst
  let main_v15 : FVec F S2x3x3 .f32 := (transpose S2x3x3 [0, 2, 1] · transposes_S2x3x3_S2x3x3_0_2_1) main_v8
  let main_cst_0 : FVec F S_ .f32 := constant S_ .f32 0x3F800000#32
  let main_v16 : FVec F S2 .f32 := broadcastInDim S2 ![] bcast_S_S2 main_cst_0
  let main_v17 : FVec F S2 .f32 := Host.divf main_v16 main_v14
  let main_v18 : FVec F S2x1x1 .f32 := broadcastInDim S2x1x1 ![0] bcast_S2_S2x1x1_0 main_v17
  let main_v19 : FVec F S2x3x3 .f32 := broadcastInDim S2x3x3 ![0, 1, 2] bcast_S2x1x1_S2x3x3_0_1_2 main_v18
  let main_v20 : FVec F S2x3x3 .f32 := mulf main_v15 main_v19
  let main_v21 : FVec F S2x3x3 .f32 := (transpose S2x3x3 [0, 2, 1] · transposes_S2x3x3_S2x3x3_0_2_1) main_v20
  fn_part1 (F := F) main_arg0 main_arg1 main_arg3 main_arg5 main_arg6 main_v21
-- ==== Kernel.lean ====
abbrev S2x32x32x128 : Shape := ⟨4, ![2, 32, 32, 128]⟩
abbrev S2x3x3 : Shape := ⟨3, ![2, 3, 3]⟩
abbrev S2x3 : Shape := ⟨2, ![2, 3]⟩
abbrev S1 : Shape := ⟨1, ![1]⟩
abbrev S2x1024x128 : Shape := ⟨3, ![2, 1024, 128]⟩
abbrev S1x16x32x128 : Shape := ⟨4, ![1, 16, 32, 128]⟩
abbrev S1x32x32x128 : Shape := ⟨4, ![1, 32, 32, 128]⟩
abbrev S1x512x128 : Shape := ⟨3, ![1, 512, 128]⟩
abbrev S1x1x1 : Shape := ⟨3, ![1, 1, 1]⟩
abbrev S1x1 : Shape := ⟨2, ![1, 1]⟩
abbrev S512x1 : Shape := ⟨2, ![512, 1]⟩
abbrev S1x1024 : Shape := ⟨2, ![1, 1024]⟩
abbrev S512x1024 : Shape := ⟨2, ![512, 1024]⟩
abbrev S16x32x128 : Shape := ⟨3, ![16, 32, 128]⟩
abbrev S512x128 : Shape := ⟨2, ![512, 128]⟩
abbrev S32x32x128 : Shape := ⟨3, ![32, 32, 128]⟩
abbrev S1024x128 : Shape := ⟨2, ![1024, 128]⟩
abbrev S512x32 : Shape := ⟨2, ![512, 32]⟩
abbrev S1024x32 : Shape := ⟨2, ![1024, 32]⟩
abbrev S512 : Shape := ⟨1, ![512]⟩
abbrev S1x512x32 : Shape := ⟨3, ![1, 512, 32]⟩

abbrev nBuf : Space → Nat
  | .hbm => 9
  | .vmem => 8
  | .smem => 4
  | _ => 0

abbrev bufTy : (tb : Table) → Fin (tcTables nBuf tb) → BufTy
  | .hbm, ⟨0, _⟩ => ⟨S2x32x32x128, .f32⟩
  | .hbm, ⟨1, _⟩ => ⟨S2x32x32x128, .f32⟩
  | .hbm, ⟨2, _⟩ => ⟨S2x32x32x128, .f32⟩
  | .hbm, ⟨3, _⟩ => ⟨S2x3x3, .f32⟩
  | .hbm, ⟨4, _⟩ => ⟨S2x3x3, .f32⟩
  | .hbm, ⟨5, _⟩ => ⟨S2x3x3, .f32⟩
  | .hbm, ⟨6, _⟩ => ⟨S2x3, .f32⟩
  | .hbm, ⟨7, _⟩ => ⟨S1, .f32⟩
  | .hbm, ⟨8, _⟩ => ⟨S2x1024x128, .f32⟩
  | .local _ .vmem, ⟨0, _⟩ => ⟨S1x16x32x128, .f32⟩
  | .local _ .vmem, ⟨1, _⟩ => ⟨S1x16x32x128, .f32⟩
  | .local _ .vmem, ⟨2, _⟩ => ⟨S1x32x32x128, .f32⟩
  | .local _ .vmem, ⟨3, _⟩ => ⟨S1x32x32x128, .f32⟩
  | .local _ .vmem, ⟨4, _⟩ => ⟨S1x32x32x128, .f32⟩
  | .local _ .vmem, ⟨5, _⟩ => ⟨S1x32x32x128, .f32⟩
  | .local _ .vmem, ⟨6, _⟩ => ⟨S1x512x128, .f32⟩
  | .local _ .vmem, ⟨7, _⟩ => ⟨S1x512x128, .f32⟩
  | .local _ .smem, ⟨0, _⟩ => ⟨S2x3x3, .f32⟩
  | .local _ .smem, ⟨1, _⟩ => ⟨S2x3x3, .f32⟩
  | .local _ .smem, ⟨2, _⟩ => ⟨S2x3x3, .f32⟩
  | .local _ .smem, ⟨3, _⟩ => ⟨S2x3, .f32⟩
  | _, _ => ⟨S2x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 2], ![false, false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def k0_off2 (i : grid0.Coords) : Fin 3 → Nat :=
  let arg0 : BitVec 32 := BitVec.ofNat 32 (i 0).val
  let v2 : Index := Scalar.indexCast arg0
  let c0_1 : Index := 0#32
  let c1 : Index := 1#32
  ![v2.toNat, 0, 1]
def k0_off3 (i : grid0.Coords) : Fin 3 → Nat :=
  let arg0 : BitVec 32 := BitVec.ofNat 32 (i 0).val
  let v4 : Index := Scalar.indexCast arg0
  let c0_2 : Index := 0#32
  let c2 : Index := 2#32
  ![v4.toNat, 0, 2]
def k0_off4 (i : grid0.Coords) : Fin 3 → Nat :=
  let arg0 : BitVec 32 := BitVec.ofNat 32 (i 0).val
  let v6 : Index := Scalar.indexCast arg0
  let c1_3 : Index := 1#32
  let c0_4 : Index := 0#32
  ![v6.toNat, 1, 0]
def k0_off5 (i : grid0.Coords) : Fin 3 → Nat :=
  let arg0 : BitVec 32 := BitVec.ofNat 32 (i 0).val
  let v8 : Index := Scalar.indexCast arg0
  let c1_5 : Index := 1#32
  let c1_6 : Index := 1#32
  ![v8.toNat, 1, 1]
def k0_off6 (i : grid0.Coords) : Fin 3 → Nat :=
  let arg0 : BitVec 32 := BitVec.ofNat 32 (i 0).val
  let v10 : Index := Scalar.indexCast arg0
  let c1_7 : Index := 1#32
  let c2_8 : Index := 2#32
  ![v10.toNat, 1, 2]
def k0_off7 (i : grid0.Coords) : Fin 3 → Nat :=
  let arg0 : BitVec 32 := BitVec.ofNat 32 (i 0).val
  let v12 : Index := Scalar.indexCast arg0
  let c2_9 : Index := 2#32
  let c0_10 : Index := 0#32
  ![v12.toNat, 2, 0]
def k0_off8 (i : grid0.Coords) : Fin 3 → Nat :=
  let arg0 : BitVec 32 := BitVec.ofNat 32 (i 0).val
  let v14 : Index := Scalar.indexCast arg0
  let c2_11 : Index := 2#32
  let c1_12 : Index := 1#32
  ![v14.toNat, 2, 1]
def k0_off9 (i : grid0.Coords) : Fin 3 → Nat :=
  let arg0 : BitVec 32 := BitVec.ofNat 32 (i 0).val
  let v16 : Index := Scalar.indexCast arg0
  let c2_13 : Index := 2#32
  let c2_14 : Index := 2#32
  ![v16.toNat, 2, 2]
def k0_off10 (i : grid0.Coords) : Fin 2 → Nat :=
  let arg0 : BitVec 32 := BitVec.ofNat 32 (i 0).val
  let v54 : Index := Scalar.indexCast arg0
  let c0_51 : Index := 0#32
  ![v54.toNat, 0]
def k0_off11 (i : grid0.Coords) : Fin 2 → Nat :=
  let arg0 : BitVec 32 := BitVec.ofNat 32 (i 0).val
  let v56 : Index := Scalar.indexCast arg0
  let c1_52 : Index := 1#32
  ![v56.toNat, 1]
def k0_off12 (i : grid0.Coords) : Fin 2 → Nat :=
  let arg0 : BitVec 32 := BitVec.ofNat 32 (i 0).val
  let v58 : Index := Scalar.indexCast arg0
  let c2_53 : Index := 2#32
  ![v58.toNat, 2]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S2x3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S2x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x32x32x128 : Shape := ⟨4, ![2, 32, 32, 128]⟩
abbrev S2x3x3 : Shape := ⟨3, ![2, 3, 3]⟩
abbrev S2x3 : Shape := ⟨2, ![2, 3]⟩
abbrev S1 : Shape := ⟨1, ![1]⟩
abbrev S32 : Shape := ⟨1, ![32]⟩
abbrev S32x32 : Shape := ⟨2, ![32, 32]⟩
abbrev S32x32x1 : Shape := ⟨3, ![32, 32, 1]⟩
abbrev S32x32x2 : Shape := ⟨3, ![32, 32, 2]⟩
abbrev S1x32x32x2 : Shape := ⟨4, ![1, 32, 32, 2]⟩
abbrev S1x1024x2 : Shape := ⟨3, ![1, 1024, 2]⟩
abbrev S1024x2 : Shape := ⟨2, ![1024, 2]⟩
abbrev S_ : Shape := ⟨0, ![]⟩
abbrev S1024x1 : Shape := ⟨2, ![1024, 1]⟩
abbrev S1024x3 : Shape := ⟨2, ![1024, 3]⟩
abbrev S2x1 : Shape := ⟨2, ![2, 1]⟩
abbrev S2 : Shape := ⟨1, ![2]⟩
abbrev S2x1x3 : Shape := ⟨3, ![2, 1, 3]⟩
abbrev S2x6x3 : Shape := ⟨3, ![2, 6, 3]⟩
abbrev S2x6x6 : Shape := ⟨3, ![2, 6, 6]⟩
abbrev S2x1x1 : Shape := ⟨3, ![2, 1, 1]⟩
abbrev S1024x2x3 : Shape := ⟨3, ![1024, 2, 3]⟩
abbrev S2x1024x3 : Shape := ⟨3, ![2, 1024, 3]⟩
abbrev S2x1024x1 : Shape := ⟨3, ![2, 1024, 1]⟩
abbrev S2x1024 : Shape := ⟨2, ![2, 1024]⟩
abbrev S1024 : Shape := ⟨1, ![1024]⟩
abbrev S1x1x1024 : Shape := ⟨3, ![1, 1, 1024]⟩
abbrev S2x1024x1024 : Shape := ⟨3, ![2, 1024, 1024]⟩
abbrev S2x1024x128 : Shape := ⟨3, ![2, 1024, 128]⟩
abbrev S2x1024x4x32 : Shape := ⟨4, ![2, 1024, 4, 32]⟩
abbrev S2x1024x128x1 : Shape := ⟨4, ![2, 1024, 128, 1]⟩
abbrev S2x1024x128x2 : Shape := ⟨4, ![2, 1024, 128, 2]⟩
abbrev S2x1024x128x4x32 : Shape := ⟨5, ![2, 1024, 128, 4, 32]⟩
abbrev S2x1024x4x128 : Shape := ⟨4, ![2, 1024, 4, 128]⟩
abbrev S2x1024x128x4 : Shape := ⟨4, ![2, 1024, 128, 4]⟩
abbrev S2x1024x4 : Shape := ⟨3, ![2, 1024, 4]⟩
abbrev S2x1024x1x4 : Shape := ⟨4, ![2, 1024, 1, 4]⟩
abbrev S2x1024x1x1 : Shape := ⟨4, ![2, 1024, 1, 1]⟩

abbrev nBuf : Space → Nat
  | .hbm => 271
  | .vmem => 0
  | .smem => 0
  | _ => 0

abbrev hbmTy0_0 (i : Nat) : BufTy := match i % 128 with
  | 0 => ⟨S2x32x32x128, .f32⟩
  | 1 => ⟨S2x32x32x128, .f32⟩
  | 2 => ⟨S2x32x32x128, .f32⟩
  | 3 => ⟨S2x3x3, .f32⟩
  | 4 => ⟨S2x3x3, .f32⟩
  | 5 => ⟨S2x3x3, .f32⟩
  | 6 => ⟨S2x3, .f32⟩
  | 7 => ⟨S1, .f32⟩
  | 8 => ⟨S32, .f32⟩
  | 9 => ⟨S32, .f32⟩
  | 10 => ⟨S32x32, .f32⟩
  | 11 => ⟨S32x32, .f32⟩
  | 12 => ⟨S32x32x1, .f32⟩
  | 13 => ⟨S32x32x1, .f32⟩
  | 14 => ⟨S32x32x2, .f32⟩
  | 15 => ⟨S1x32x32x2, .f32⟩
  | 16 => ⟨S1x1024x2, .f32⟩
  | 17 => ⟨S1024x2, .f32⟩
  | 18 => ⟨S_, .f32⟩
  | 19 => ⟨S1024x1, .f32⟩
  | 20 => ⟨S1024x3, .f32⟩
  | 21 => ⟨S2x1, .f32⟩
  | 22 => ⟨S2, .f32⟩
  | 23 => ⟨S_, .f32⟩
  | 24 => ⟨S2, .f32⟩
  | 25 => ⟨S2x1, .f32⟩
  | 26 => ⟨S2, .f32⟩
  | 27 => ⟨S2, .f32⟩
  | 28 => ⟨S2x1, .f32⟩
  | 29 => ⟨S2, .f32⟩
  | 30 => ⟨S2x1, .f32⟩
  | 31 => ⟨S2x1, .f32⟩
  | 32 => ⟨S2x1, .f32⟩
  | 33 => ⟨S2x3, .f32⟩
  | 34 => ⟨S2x1, .f32⟩
  | 35 => ⟨S2, .f32⟩
  | 36 => ⟨S2x1, .f32⟩
  | 37 => ⟨S2, .f32⟩
  | 38 => ⟨S2, .f32⟩
  | 39 => ⟨S2x1, .f32⟩
  | 40 => ⟨S2x1, .f32⟩
  | 41 => ⟨S2x1, .f32⟩
  | 42 => ⟨S2x3, .f32⟩
  | 43 => ⟨S2x1, .f32⟩
  | 44 => ⟨S2, .f32⟩
  | 45 => ⟨S2, .f32⟩
  | 46 => ⟨S2x1, .f32⟩
  | 47 => ⟨S2, .f32⟩
  | 48 => ⟨S2x1, .f32⟩
  | 49 => ⟨S2x1, .f32⟩
  | 50 => ⟨S2x1, .f32⟩
  | 51 => ⟨S2x3, .f32⟩
  | 52 => ⟨S2x1x3, .f32⟩
  | 53 => ⟨S2x1x3, .f32⟩
  | 54 => ⟨S2x1x3, .f32⟩
  | 55 => ⟨S2x3x3, .f32⟩
  | 56 => ⟨S2x3x3, .f32⟩
  | 57 => ⟨S2x6x3, .f32⟩
  | 58 => ⟨S2x6x6, .f32⟩
  | 59 => ⟨S2x3x3, .f32⟩
  | 60 => ⟨S2x3x3, .f32⟩
  | 61 => ⟨S2x3x3, .f32⟩
  | 62 => ⟨S2x3x3, .f32⟩
  | 63 => ⟨S2x3x3, .f32⟩
  | 64 => ⟨S2x3x3, .f32⟩
  | 65 => ⟨S2x3x3, .f32⟩
  | 66 => ⟨S2x1x3, .f32⟩
  | 67 => ⟨S2x3, .f32⟩
  | 68 => ⟨S2x1x3, .f32⟩
  | 69 => ⟨S2x3, .f32⟩
  | 70 => ⟨S2x3, .f32⟩
  | 71 => ⟨S_, .f32⟩
  | 72 => ⟨S2, .f32⟩
  | 73 => ⟨S2x3x3, .f32⟩
  | 74 => ⟨S_, .f32⟩
  | 75 => ⟨S2, .f32⟩
  | 76 => ⟨S2, .f32⟩
  | 77 => ⟨S2x1x1, .f32⟩
  | 78 => ⟨S2x3x3, .f32⟩
  | 79 => ⟨S2x3x3, .f32⟩
  | 80 => ⟨S2x3x3, .f32⟩
  | 81 => ⟨S2x6x3, .f32⟩
  | 82 => ⟨S2x6x6, .f32⟩
  | 83 => ⟨S2x3x3, .f32⟩
  | 84 => ⟨S2x3x3, .f32⟩
  | 85 => ⟨S2x3x3, .f32⟩
  | 86 => ⟨S2x3x3, .f32⟩
  | 87 => ⟨S2x3x3, .f32⟩
  | 88 => ⟨S2x3x3, .f32⟩
  | 89 => ⟨S2x3x3, .f32⟩
  | 90 => ⟨S2x1x3, .f32⟩
  | 91 => ⟨S2x3, .f32⟩
  | 92 => ⟨S2x1x3, .f32⟩
  | 93 => ⟨S2x3, .f32⟩
  | 94 => ⟨S2x3, .f32⟩
  | 95 => ⟨S_, .f32⟩
  | 96 => ⟨S2, .f32⟩
  | 97 => ⟨S2x3x3, .f32⟩
  | 98 => ⟨S_, .f32⟩
  | 99 => ⟨S2, .f32⟩
  | 100 => ⟨S2, .f32⟩
  | 101 => ⟨S2x1x1, .f32⟩
  | 102 => ⟨S2x3x3, .f32⟩
  | 103 => ⟨S2x3x3, .f32⟩
  | 104 => ⟨S2x3x3, .f32⟩
  | 105 => ⟨S2x3x3, .f32⟩
  | 106 => ⟨S1024x2x3, .f32⟩
  | 107 => ⟨S2x1024x3, .f32⟩
  | 108 => ⟨S32, .f32⟩
  | 109 => ⟨S32, .f32⟩
  | 110 => ⟨S32x32, .f32⟩
  | 111 => ⟨S32x32, .f32⟩
  | 112 => ⟨S32x32x1, .f32⟩
  | 113 => ⟨S32x32x1, .f32⟩
  | 114 => ⟨S32x32x2, .f32⟩
  | 115 => ⟨S1x32x32x2, .f32⟩
  | 116 => ⟨S1x1024x2, .f32⟩
  | 117 => ⟨S2x1024x1, .f32⟩
  | 118 => ⟨S2x1024, .f32⟩
  | 119 => ⟨S2x1024, .f32⟩
  | 120 => ⟨S2x1024x1, .f32⟩
  | 121 => ⟨S2x1024, .f32⟩
  | 122 => ⟨S2x1024, .f32⟩
  | 123 => ⟨S2x1024, .i1⟩
  | 124 => ⟨S1024x2, .f32⟩
  | 125 => ⟨S2x1024x1, .f32⟩
  | 126 => ⟨S2x1024, .f32⟩
  | 127 => ⟨S2x1024x1, .f32⟩
  | _ => ⟨S2x32x32x128, .f32⟩

abbrev hbmTy0_1 (i : Nat) : BufTy := match i % 128 with
  | 0 => ⟨S2x1024x1, .f32⟩
  | 1 => ⟨S2x1024, .f32⟩
  | 2 => ⟨S2x1024x1, .f32⟩
  | 3 => ⟨S2x1024x1, .f32⟩
  | 4 => ⟨S2x1024, .f32⟩
  | 5 => ⟨S2x1024x1, .f32⟩
  | 6 => ⟨S1024x1, .f32⟩
  | 7 => ⟨S1024, .f32⟩
  | 8 => ⟨S1x1x1024, .f32⟩
  | 9 => ⟨S1024x1, .f32⟩
  | 10 => ⟨S1024, .f32⟩
  | 11 => ⟨S1x1x1024, .f32⟩
  | 12 => ⟨S2x1024x1024, .f32⟩
  | 13 => ⟨S2x1024x1024, .f32⟩
  | 14 => ⟨S2x1024x1024, .f32⟩
  | 15 => ⟨S2x1024x1024, .f32⟩
  | 16 => ⟨S2x1024x1024, .f32⟩
  | 17 => ⟨S2x1024x1024, .f32⟩
  | 18 => ⟨S2x1024x1024, .f32⟩
  | 19 => ⟨S2x1024x1024, .f32⟩
  | 20 => ⟨S2x1024x1024, .f32⟩
  | 21 => ⟨S2x1024x1024, .f32⟩
  | 22 => ⟨S2x1024x1024, .f32⟩
  | 23 => ⟨S2x1024x1024, .f32⟩
  | 24 => ⟨S2x1024x1024, .f32⟩
  | 25 => ⟨S2x1024x1024, .f32⟩
  | 26 => ⟨S2x1024x1024, .f32⟩
  | 27 => ⟨S2x1024x1024, .f32⟩
  | 28 => ⟨S_, .f32⟩
  | 29 => ⟨S2x1024x1024, .f32⟩
  | 30 => ⟨S2x1024x1024, .f32⟩
  | 31 => ⟨S2x1024x1024, .f32⟩
  | 32 => ⟨S2x1024x1024, .i1⟩
  | 33 => ⟨S_, .f32⟩
  | 34 => ⟨S2x1024x1024, .f32⟩
  | 35 => ⟨S2x1024x1024, .f32⟩
  | 36 => ⟨S2x1024x1024, .f32⟩
  | 37 => ⟨S2x1024x1024, .i1⟩
  | 38 => ⟨S2x1024x1024, .i1⟩
  | 39 => ⟨S_, .f32⟩
  | 40 => ⟨S2x1024x1024, .f32⟩
  | 41 => ⟨S2x1024x1024, .f32⟩
  | 42 => ⟨S2x1024x1024, .f32⟩
  | 43 => ⟨S2x1024x1024, .i1⟩
  | 44 => ⟨S_, .f32⟩
  | 45 => ⟨S2x1024x1024, .f32⟩
  | 46 => ⟨S2x1024x1024, .f32⟩
  | 47 => ⟨S2x1024x1024, .f32⟩
  | 48 => ⟨S2x1024x1024, .i1⟩
  | 49 => ⟨S2x1024x1024, .i1⟩
  | 50 => ⟨S2x1024x1, .i1⟩
  | 51 => ⟨S2x1024x1024, .i1⟩
  | 52 => ⟨S2x1024x1024, .i1⟩
  | 53 => ⟨S1024, .i32⟩
  | 54 => ⟨S1x1x1024, .i32⟩
  | 55 => ⟨S_, .i32⟩
  | 56 => ⟨S_, .i32⟩
  | 57 => ⟨S2x1024x1024, .i32⟩
  | 58 => ⟨S2x1024x1024, .i32⟩
  | 59 => ⟨S2x1024x1024, .i32⟩
  | 60 => ⟨S2x1024x1024, .i32⟩
  | 61 => ⟨S2x1024x128, .i32⟩
  | 62 => ⟨S_, .i32⟩
  | 63 => ⟨S2x1024x128, .i32⟩
  | 64 => ⟨S2x1024x128, .i1⟩
  | 65 => ⟨S2x1024x4x32, .f32⟩
  | 66 => ⟨S2x1024x4x32, .f32⟩
  | 67 => ⟨S2x1024x4x32, .f32⟩
  | 68 => ⟨S2, .i32⟩
  | 69 => ⟨S2x1x1, .i32⟩
  | 70 => ⟨S_, .i32⟩
  | 71 => ⟨S2x1x1, .i32⟩
  | 72 => ⟨S2x1x1, .i1⟩
  | 73 => ⟨S_, .i32⟩
  | 74 => ⟨S2x1x1, .i32⟩
  | 75 => ⟨S2x1x1, .i32⟩
  | 76 => ⟨S2x1x1, .i32⟩
  | 77 => ⟨S_, .i32⟩
  | 78 => ⟨S2x1024x128, .i32⟩
  | 79 => ⟨S2x1024x128, .i1⟩
  | 80 => ⟨S_, .i32⟩
  | 81 => ⟨S2x1024x128, .i32⟩
  | 82 => ⟨S2x1024x128, .i32⟩
  | 83 => ⟨S2x1024x128, .i32⟩
  | 84 => ⟨S2x1024x128, .i32⟩
  | 85 => ⟨S2x1024x128x1, .i32⟩
  | 86 => ⟨S2x1024x128x1, .i32⟩
  | 87 => ⟨S2x1024x128x2, .i32⟩
  | 88 => ⟨S2x1024x128x4x32, .f32⟩
  | 89 => ⟨S_, .i32⟩
  | 90 => ⟨S2x1x1, .i32⟩
  | 91 => ⟨S2x1x1, .i1⟩
  | 92 => ⟨S_, .i32⟩
  | 93 => ⟨S2x1x1, .i32⟩
  | 94 => ⟨S2x1x1, .i32⟩
  | 95 => ⟨S2x1x1, .i32⟩
  | 96 => ⟨S_, .i32⟩
  | 97 => ⟨S2x1024x128, .i32⟩
  | 98 => ⟨S2x1024x128, .i1⟩
  | 99 => ⟨S_, .i32⟩
  | 100 => ⟨S2x1024x128, .i32⟩
  | 101 => ⟨S2x1024x128, .i32⟩
  | 102 => ⟨S2x1024x128, .i32⟩
  | 103 => ⟨S2x1024x128, .i32⟩
  | 104 => ⟨S2x1024x128x1, .i32⟩
  | 105 => ⟨S2x1024x128x1, .i32⟩
  | 106 => ⟨S2x1024x128x2, .i32⟩
  | 107 => ⟨S2x1024x128x4x32, .f32⟩
  | 108 => ⟨S2x1024x4x128, .f32⟩
  | 109 => ⟨S2x1024x128x4, .f32⟩
  | 110 => ⟨S2x1024x128x1, .i1⟩
  | 111 => ⟨S_, .f32⟩
  | 112 => ⟨S_, .f32⟩
  | 113 => ⟨S2x1024x128x4, .i1⟩
  | 114 => ⟨S2x1024x128x4, .f32⟩
  | 115 => ⟨S2x1024x128x4, .f32⟩
  | 116 => ⟨S_, .f32⟩
  | 117 => ⟨S2x1024x128x4, .f32⟩
  | 118 => ⟨S2x1024x128x4, .f32⟩
  | 119 => ⟨S_, .f32⟩
  | 120 => ⟨S2x1024x4, .f32⟩
  | 121 => ⟨S_, .f32⟩
  | 122 => ⟨S2x1024x4, .f32⟩
  | 123 => ⟨S2x1024x4, .f32⟩
  | 124 => ⟨S2x1024x1x4, .f32⟩
  | 125 => ⟨S2x1024x128x4, .f32⟩
  | 126 => ⟨S2x1024x128x4, .f32⟩
  | 127 => ⟨S2x1024x128x4, .f32⟩
  | _ => ⟨S2x32x32x128, .f32⟩

abbrev hbmTy0_2 (i : Nat) : BufTy := match i % 128 with
  | 0 => ⟨S_, .f32⟩
  | 1 => ⟨S2x1024x4, .f32⟩
  | 2 => ⟨S2x1024x1x4, .f32⟩
  | 3 => ⟨S2x1024x128x4, .f32⟩
  | 4 => ⟨S2x1024x128x4, .f32⟩
  | 5 => ⟨S_, .i1⟩
  | 6 => ⟨S2x1024, .i1⟩
  | 7 => ⟨S2x1024x1x1, .i1⟩
  | 8 => ⟨S_, .f32⟩
  | 9 => ⟨S_, .f32⟩
  | 10 => ⟨S2x1024x128x4, .i1⟩
  | 11 => ⟨S2x1024x128x4, .f32⟩
  | 12 => ⟨S2x1024x128x4, .f32⟩
  | 13 => ⟨S2x1024x4x32, .f32⟩
  | 14 => ⟨S2x1024x128, .f32⟩
  | _ => ⟨S2x32x32x128, .f32⟩

abbrev hbmTy (i : Nat) : BufTy := match i / 128 with
  | 0 => hbmTy0_0 i
  | 1 => hbmTy0_1 i
  | 2 => hbmTy0_2 i
  | _ => ⟨S2x32x32x128, .f32⟩

abbrev bufTy : (tb : Table) → Fin (tcTables nBuf tb) → BufTy
  | .hbm, ⟨i, _⟩ => hbmTy i
  | _, _ => ⟨S2x32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_1 : Ref sig .tc := ⟨.hbm, 71, rfl⟩
abbrev main_v61 : Ref sig .tc := ⟨.hbm, 72, rfl⟩
abbrev main_v62 : Ref sig .tc := ⟨.hbm, 73, rfl⟩
abbrev main_cst_2 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_3 : Ref sig .tc := ⟨.hbm, 95, rfl⟩
abbrev main_v83 : Ref sig .tc := ⟨.hbm, 96, rfl⟩
abbrev main_v84 : Ref sig .tc := ⟨.hbm, 97, rfl⟩
abbrev main_cst_4 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_cst_5 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_cst_6 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_cst_7 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_cst_8 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_call0_v0 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_c : Ref sig .tc := ⟨.hbm, 183, rfl⟩
abbrev main_call1_v0 : Ref sig .tc := ⟨.hbm, 184, rfl⟩
abbrev main_call1_v1 : Ref sig .tc := ⟨.hbm, 185, rfl⟩
abbrev main_call1_v2 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_c_9 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_c_10 : Ref sig .tc := ⟨.hbm, 198, rfl⟩
abbrev main_v174 : Ref sig .tc := ⟨.hbm, 199, rfl⟩
abbrev main_v175 : Ref sig .tc := ⟨.hbm, 200, rfl⟩
abbrev main_c_11 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_c_12 : Ref sig .tc := ⟨.hbm, 205, rfl⟩
abbrev main_v179 : Ref sig .tc := ⟨.hbm, 206, rfl⟩
abbrev main_v180 : Ref sig .tc := ⟨.hbm, 207, rfl⟩
abbrev main_c_13 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_c_14 : Ref sig .tc := ⟨.hbm, 217, rfl⟩
abbrev main_v189 : Ref sig .tc := ⟨.hbm, 218, rfl⟩
abbrev main_v190 : Ref sig .tc := ⟨.hbm, 219, rfl⟩
abbrev main_c_15 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_c_16 : Ref sig .tc := ⟨.hbm, 224, rfl⟩
abbrev main_v194 : Ref sig .tc := ⟨.hbm, 225, rfl⟩
abbrev main_v195 : Ref sig .tc := ⟨.hbm, 226, rfl⟩
abbrev main_c_17 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_cst_18 : Ref sig .tc := ⟨.hbm, 239, rfl⟩
abbrev main_call3_v0 : Ref sig .tc := ⟨.hbm, 240, rfl⟩
abbrev main_call3_v1 : Ref sig .tc := ⟨.hbm, 241, rfl⟩
abbrev main_call3_v2 : Ref sig .tc := ⟨.hbm, 242, rfl⟩
abbrev main_v207 : Ref sig .tc := ⟨.hbm, 243, rfl⟩
abbrev main_cst_19 : Ref sig .tc := ⟨.hbm, 244, rfl⟩
abbrev main_v208 : Ref sig .tc := ⟨.hbm, 245, rfl⟩
abbrev main_v209 : Ref sig .tc := ⟨.hbm, 246, rfl⟩
abbrev main_cst_20 : Ref sig .tc := ⟨.hbm, 247, rfl⟩
abbrev main_v210 : Ref sig .tc := ⟨.hbm, 248, rfl⟩
abbrev main_cst_21 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_cst_22 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_c_23 : Ref sig .tc := ⟨.hbm, 261, rfl⟩
abbrev main_v221 : Ref sig .tc := ⟨.hbm, 262, rfl⟩
abbrev main_v222 : Ref sig .tc := ⟨.hbm, 263, rfl⟩
abbrev main_cst_24 : Ref sig .tc := ⟨.hbm, 264, rfl⟩
abbrev main_call4_v0 : Ref sig .tc := ⟨.hbm, 265, rfl⟩
abbrev main_call4_v1 : Ref sig .tc := ⟨.hbm, 266, rfl⟩
abbrev main_call4_v2 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩

abbrev nD : Nat := 1
abbrev τ : Topo := Topo.v7x

variable {F : FTy → Type} [FloatOps F]
-- ==== Proof.Frames.lean ====
/-
  The frames: the kernel, its ideal form and the reference each run to the end and leave their arguments and every
  semaphore counter as they were; and the one named constant of the ideal form is the value its table gives.
-/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof.Frames

open Idealize.ShloMosaic Idealize.SL.Sem

theorem kernel : Cert.quiescent_Kernel := fun m ρ _ => Cert.Kernel.Gen.frame m ρ

theorem kernelIdeal : Cert.quiescent_KernelIdeal := fun m ρ _ => Cert.KernelIdeal.Gen.frame m ρ

/-- The same under the precondition, which a run does not need. -/
theorem kernelIdeal_cameras [Cert.Pre_cameras.Facts] : Cert.quiescent_KernelIdeal_pre_cameras := fun m ρ _ => Cert.KernelIdeal.Gen.frame m ρ

/-- The reference's run, of which only the arguments are kept; it has no semaphore. -/
theorem reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem reference_cameras [Cert.Pre_cameras.Facts] : Cert.quiescent_ReferenceIdeal_pre_cameras := fun m ρ _ => reference m ρ trivial

/-- The mask is named `⊥` where the kernel prints −10³⁰. -/
theorem preserves : Cert.preserves_Kernel_KernelIdeal :=
  IdealRules.named_const.statement Cert.KernelIdeal.κ "mask" .f32 0xF149F2CA#32 ⊥ rfl

end Cert.Proof.Frames

end
-- ==== Proof.Spec.lean ====
module

public import Idealize.ShloMosaic.PureOps.Ideal

@[expose] public section

/-!
# Epipolar attention, as mathematics over the extended reals

One camera pair: matrices `K0`, `K1`, `R`, a translation `t`. A query pixel `l` has an epipolar line
`a x + b y + c = 0` in the other image; the query attends to the pixels within two units of that line,
measured along the axis the line is steeper against. Pixels are numbered row by row, 32 to a row, and
pixel 0 is never attended to.
-/

noncomputable section

namespace Cert.Proof.Spec

open Idealize.ShloMosaic

/-- A 3 × 3 matrix. -/
abbrev Mat := Fin 3 → Fin 3 → EReal

/-- The cofactor of entry `(i, j)`, by the cyclic rule. -/
def cof (m : Mat) (i j : Fin 3) : EReal :=
  m (i + 1) (j + 1) * m (i + 2) (j + 2) - m (i + 1) (j + 2) * m (i + 2) (j + 1)

/-- The inverse: the cofactors transposed, over the determinant. -/
def inv (m : Mat) : Mat := fun i j => cof m j i * Ideal.div 1 (∑ x, m 0 x * cof m 0 x)

/-- The matrix of the cross product with `t`. -/
def skew (t : Fin 3 → EReal) : Mat := ![![0, -t 2, t 1], ![t 2, 0, -t 0], ![-t 1, t 0, 0]]

/-- The fundamental matrix. -/
def fund (K0 K1 R : Mat) (t : Fin 3 → EReal) : Mat := fun j x =>
  ∑ y, inv K1 y j * ∑ z, (∑ w, skew t y w * R w z) * inv K0 z x

/-- A pixel's column. -/
def px (l : Fin 1024) : EReal := (((l.val % 32 : ℕ) : ℝ) : EReal)

/-- A pixel's row. -/
def py (l : Fin 1024) : EReal := (((l.val / 32 : ℕ) : ℝ) : EReal)

/-- Coefficient `j` of the epipolar line of the pixel `l`. -/
def line (F : Mat) (j : Fin 3) (l : Fin 1024) : EReal := px l * F j 0 + py l * F j 1 + F j 2

/-- The pixel `s` lies within two units of the line, along the axis of the larger coefficient. -/
def Near (a b c : EReal) (s : Fin 1024) : Prop :=
  if max a (-a) ≤ max b (-b) then
    py s < Ideal.div (-(a * px s + c)) b + 2 ∧ Ideal.div (-(a * px s + c)) b - 2 < py s
  else
    px s < Ideal.div (-(b * py s + c)) a + 2 ∧ Ideal.div (-(b * py s + c)) a - 2 < px s

open Classical in
/-- The pixels a query with that line attends to. -/
def near (a b c : EReal) : Finset (Fin 1024) := {s | s.val ≠ 0 ∧ Near a b c s}

theorem mem_near (a b c : EReal) (s : Fin 1024) : s ∈ near a b c ↔ s.val ≠ 0 ∧ Near a b c s := by
  classical
  unfold near
  rw [Finset.mem_filter]
  simp only [Finset.mem_univ, true_and]

/-- The attention over the pixels in `A`: the values `v` weighted by the exponentials of `x`, normalised. -/
def attend (A : Finset (Fin 1024)) (x v : Fin 1024 → EReal) : EReal :=
  ∑ s ∈ A, Ideal.div (Ideal.exp (x s)) (∑ s ∈ A, Ideal.exp (x s)) * v s

end Cert.Proof.Spec
-- ==== Proof.Reals.lean ====
module

public import Idealize.ShloMosaic.PureOps.Ideal
public import Idealize.ShloMosaic.Lib.IdealHost

@[expose] public section

/-! # Extended reals: constants the programs use, and sums with a real factor -/

noncomputable section

namespace Cert.Proof.Reals

open Idealize.ShloMosaic

theorem two_bits : Ideal.ofBits .f32 0x40000000#32 = ((2 : ℝ) : EReal) := by
  simp [Ideal.ofBits, Ideal.ieee]; rw [← EReal.coe_mul]; norm_num
theorem half_bits : Ideal.ofBits .f32 0x3F000000#32 = ((1 / 2 : ℝ) : EReal) := by
  simp [Ideal.ofBits, Ideal.ieee]; rw [← EReal.coe_mul]; norm_num
theorem inv32_bits : Ideal.ofBits .f32 0x3D000000#32 = ((1 / 32 : ℝ) : EReal) := by
  simp [Ideal.ofBits, Ideal.ieee]; rw [← EReal.coe_mul]; norm_num
theorem thirtytwo_bits : Ideal.ofBits .f32 0x42000000#32 = ((32 : ℝ) : EReal) := by
  simp [Ideal.ofBits, Ideal.ieee]; rw [← EReal.coe_mul]; norm_num
theorem nan_bits : Ideal.ofBits .f32 0x7FC00000#32 = ⊥ := by
  simp [Ideal.ofBits, Ideal.ieee]
theorem ninf_bits : Ideal.ofBits .f32 0xFF800000#32 = ⊥ := by
  simp [Ideal.ofBits, Ideal.ieee]
theorem inf_bits : Ideal.ofBits .f32 0x7F800000#32 = ⊤ := by
  simp [Ideal.ofBits, Ideal.ieee]
theorem temp_bits : Ideal.ofBits .f32 0x3E3504F3#32 = ((11863283 / 67108864 : ℝ) : EReal) := by
  simp [Ideal.ofBits, Ideal.ieee]; rw [← EReal.coe_mul]; norm_num
theorem tiny_bits : Ideal.ofBits .f32 0x0DA24260#32 = ((10633824 / 2 ^ 123 : ℝ) : EReal) := by
  simp [Ideal.ofBits, Ideal.ieee]; rw [← EReal.coe_mul]; norm_num

/-- A nonnegative real factor distributes over a sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- A sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real with a finite absolute value is a real. -/
theorem exists_real_of_abs_lt {x : EReal} (h : max x (-x) < ⊤) : ∃ r : ℝ, x = r := by
  induction x with
  | bot => simp at h
  | top => simp at h
  | coe r => exact ⟨r, rfl⟩

theorem exists_real {x : EReal} {a : ℝ} (h : (a : EReal) ≤ x) (h' : x < ⊤) : ∃ r : ℝ, x = r ∧ a ≤ r := by
  induction x with
  | bot => simp at h
  | top => simp at h'
  | coe r => exact ⟨r, rfl, by exact_mod_cast h⟩

theorem div_real (x : ℝ) {y : ℝ} (hy : y ≠ 0) : Ideal.div (x : EReal) (y : EReal) = ((x / y : ℝ) : EReal) := by
  rw [Ideal.div_coe hy, ← EReal.coe_mul, mul_one_div]
end Cert.Proof.Reals
-- ==== Proof.Small.lean ====
module

public import proofs.«01_k».proof.Proof.Spec
public import proofs.«01_k».proof.Proof.Reals
public import Idealize.ShloMosaic.Lib.Pointwise

@[expose] public section

/-! # Small matrices as the host programs lay them out

A 3 × 3 matrix joined to itself and sliced is read through a choice of the two copies; a stacked matrix is
read through a choice of its rows and columns.
-/

noncomputable section

namespace Cert.Proof.Small

open Cert.Proof.Spec Cert.Proof.Reals
open Idealize.ShloMosaic Idealize.ShloMosaic.Tactic

abbrev Mats := (⟨3, ![2, 3, 3]⟩ : Shape).Idx → EReal

/-- Matrix `n` of a pair. -/
abbrev mat (K : Mats) (n : Fin 2) : Mat := fun i j => K (ix3 n i j)

/-- Vector `n` of a pair. -/
abbrev vec (t : (⟨2, ![2, 3]⟩ : Shape).Idx → EReal) (n : Fin 2) : Fin 3 → EReal := fun i => t (ix2 n i)

theorem column_add_one (K : Mats) (n : Fin 2) (i x : Fin 3) {h : 1 + x.val < 3 → 1 + x.val < 3} {h' : ¬ 1 + x.val < 3 → 1 + x.val - 3 < 3} :
    (if g : 1 + x.val < 3 then K (ix3 n i ⟨1 + x.val, h g⟩) else K (ix3 n i ⟨1 + x.val - 3, h' g⟩)) = K (ix3 n i (x + 1)) := by
  fin_cases x <;> rfl

theorem column_add_two (K : Mats) (n : Fin 2) (i x : Fin 3) {h : 2 + x.val < 3 → 2 + x.val < 3} {h' : ¬ 2 + x.val < 3 → 2 + x.val - 3 < 3} :
    (if g : 2 + x.val < 3 then K (ix3 n i ⟨2 + x.val, h g⟩) else K (ix3 n i ⟨2 + x.val - 3, h' g⟩)) = K (ix3 n i (x + 2)) := by
  fin_cases x <;> rfl

/-- A cofactor of the first row, read through the joined copies. -/
theorem cof_row_zero (K : Mats) (n : Fin 2) (x : Fin 3) :
    K (ix3 n 1 (x + 1)) * K (ix3 n 2 (x + 2)) - K (ix3 n 1 (x + 2)) * K (ix3 n 2 (x + 1)) = cof (mat K n) 0 x := rfl

theorem skew_entry (a b c : EReal) (t : Fin 3 → EReal) (ha : a = t 0) (hb : b = t 1) (hc : c = t 2) (x y : Fin 3) :
    (if _ : x.val < 1 then if _ : y.val < 1 then 0 else if _ : y.val - 1 < 1 then -c else b
      else if _ : x.val - 1 < 1 then if _ : y.val < 1 then c else if _ : y.val - 1 < 1 then 0 else -a
      else if _ : y.val < 1 then -b else if _ : y.val - 1 < 1 then a else 0) = skew t x y := by
  subst ha hb hc
  fin_cases x <;> fin_cases y <;> rfl

theorem sitofp_ofNat {k : ℕ} (h : k < 1024) : (FloatOps.sitofp (F := Ideal) .f32 (BitVec.ofNat 32 k) : EReal) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  norm_num

abbrev Field := (⟨4, ![2, 32, 32, 128]⟩ : Shape).Idx → EReal

/-- The entry of pixel `l`, lane `y`, in image pair `n`. -/
abbrev entry (q : Field) (n : Fin 2) (l : Fin 1024) (y : Fin 128) : EReal :=
  q (ix4 n (⟨l.val / 32, by omega⟩ : Fin 32) (⟨l.val % 32, by omega⟩ : Fin 32) y)

/-- The product of query `l` and key `s` in head `h`. -/
def score (q k : Field) (n : Fin 2) (h : Fin 4) (l s : Fin 1024) : EReal :=
  ∑ x : Fin 32, entry q n l ⟨h.val * 32 + x.val, by omega⟩ * entry k n s ⟨h.val * 32 + x.val, by omega⟩

/-- The problem's answer at pixel `l`, channel `y` of batch `n`: the head of `y` attends to the pixels in `A`. -/
def answer (A : Finset (Fin 1024)) (q k v : Field) (n : Fin 2) (l : Fin 1024) (y : Fin 128) : EReal :=
  Spec.attend A (fun s => Ideal.ofBits .f32 0x3E3504F3#32 * score q k n ⟨y.val / 32, by omega⟩ l s) (fun s => entry v n s y)

end Cert.Proof.Small
-- ==== Proof.Alike.lean ====
module

public import proofs.«01_k».proof.Proof.Reals

@[expose] public section

/-! # Numbers that differ at most in the sign of an infinity

The kernel and the reference form the cofactors with opposite signs inside and outside, which tells two infinities
apart and nothing else. Sums, products and quotients carry that on, so a result that is finite in one is the same in
the other.
-/

noncomputable section

namespace Cert.Proof.Alike

open Idealize.ShloMosaic

/-- One of the two infinities. -/
def Infinite (x : EReal) : Prop := x = ⊤ ∨ x = ⊥

/-- The same number, or two infinities. -/
def Alike (x y : EReal) : Prop := x = y ∨ Infinite x ∧ Infinite y

theorem refl (x : EReal) : Alike x x := Or.inl rfl

theorem infinite_neg {x : EReal} (h : Infinite x) : Infinite (-x) := by
  rcases h with rfl | rfl
  · exact Or.inr rfl
  · exact Or.inl rfl

theorem infinite_add {x : EReal} (y : EReal) (h : Infinite x) : Infinite (x + y) := by
  rcases h with rfl | rfl
  · by_cases hy : y = ⊥
    · rw [hy]; exact Or.inr (EReal.add_bot _)
    · exact Or.inl (EReal.top_add_of_ne_bot hy)
  · exact Or.inr (EReal.bot_add _)

theorem infinite_mul {x y : EReal} (h : Infinite x) (hy : y ≠ 0) : Infinite (x * y) := by
  rcases lt_or_gt_of_ne hy with hy | hy <;> rcases h with rfl | rfl
  · exact Or.inr (EReal.top_mul_of_neg hy)
  · exact Or.inl (EReal.bot_mul_of_neg hy)
  · exact Or.inl (EReal.top_mul_of_pos hy)
  · exact Or.inr (EReal.bot_mul_of_pos hy)

theorem Infinite.ne_zero {x : EReal} (h : Infinite x) : x ≠ 0 := by
  rcases h with rfl | rfl
  · exact EReal.top_ne_zero
  · exact EReal.bot_ne_zero

theorem real_or (x : EReal) : (∃ r : ℝ, x = r) ∨ Infinite x := by
  induction x with
  | bot => exact Or.inr (Or.inr rfl)
  | top => exact Or.inr (Or.inl rfl)
  | coe r => exact Or.inl ⟨r, rfl⟩

theorem add {x x' y y' : EReal} (h : Alike x x') (g : Alike y y') : Alike (x + y) (x' + y') := by
  rcases h with rfl | ⟨a, b⟩
  · rcases g with rfl | ⟨a, b⟩
    · exact refl _
    · rw [add_comm x, add_comm x]; exact Or.inr ⟨infinite_add _ a, infinite_add _ b⟩
  · exact Or.inr ⟨infinite_add _ a, infinite_add _ b⟩

theorem mul {x x' y y' : EReal} (h : Alike x x') (g : Alike y y') : Alike (x * y) (x' * y') := by
  rcases g with rfl | ⟨a, b⟩
  · rcases h with rfl | ⟨a, b⟩
    · exact refl _
    · by_cases hy : y = 0
      · rw [hy, mul_zero, mul_zero]; exact refl _
      · exact Or.inr ⟨infinite_mul a hy, infinite_mul b hy⟩
  · rw [mul_comm x, mul_comm x']
    rcases h with rfl | ⟨a', b'⟩
    · by_cases hx : x = 0
      · rw [hx, mul_zero, mul_zero]; exact refl _
      · exact Or.inr ⟨infinite_mul a hx, infinite_mul b hx⟩
    · exact Or.inr ⟨infinite_mul a a'.ne_zero, infinite_mul b b'.ne_zero⟩

theorem sub {x x' y y' : EReal} (h : Alike x x') (g : Alike y y') : Alike (x - y) (x' - y') := by
  rw [sub_eq_add_neg, sub_eq_add_neg]
  refine add h ?_
  rcases g with rfl | ⟨a, b⟩
  · exact refl _
  · exact Or.inr ⟨infinite_neg a, infinite_neg b⟩

/-- A difference turned round: equal for numbers, infinite on both sides otherwise. -/
theorem turn (x y : EReal) : Alike (0 - (x - y)) (y - x) := by
  have e : ∀ u v : EReal, Infinite u ∨ Infinite v → Infinite (u - v) := fun u v h => by
    rw [sub_eq_add_neg]
    rcases h with h | h
    · exact infinite_add _ h
    · rw [add_comm]; exact infinite_add _ (infinite_neg h)
  rcases real_or x with ⟨a, rfl⟩ | hx
  · rcases real_or y with ⟨b, rfl⟩ | hy
    · refine Or.inl ?_
      rw [← EReal.coe_zero, ← EReal.coe_sub, ← EReal.coe_sub, ← EReal.coe_sub]
      congr 1
      ring
    · exact Or.inr ⟨e _ _ (Or.inr (e _ _ (Or.inr hy))), e _ _ (Or.inl hy)⟩
  · exact Or.inr ⟨e _ _ (Or.inr (e _ _ (Or.inl hx))), e _ _ (Or.inr hx)⟩

theorem div_infinite (x : EReal) {y : EReal} (h : Infinite y) : Ideal.div x y = 0 := by
  unfold Ideal.div
  rw [if_neg h.ne_zero]
  rcases h with rfl | rfl
  · rw [EReal.inv_top, mul_zero]
  · rw [EReal.inv_bot, mul_zero]

theorem div (x : EReal) {y y' : EReal} (h : Alike y y') : Alike (Ideal.div x y) (Ideal.div x y') := by
  rcases h with rfl | ⟨a, b⟩
  · exact refl _
  · rw [div_infinite x a, div_infinite x b]; exact refl _

theorem eq_of_real {x y : EReal} (h : Alike x y) (hy : ∃ r : ℝ, y = r) : x = y := by
  obtain ⟨r, rfl⟩ := hy
  rcases h with h | ⟨_, h⟩
  · exact h
  · rcases h with h | h
    · exact absurd h (EReal.coe_ne_top r)
    · exact absurd h (EReal.coe_ne_bot r)

/-- Where a sum is finite, so is its first term. -/
theorem real_of_add {x y : EReal} (h : ∃ r : ℝ, x + y = r) : ∃ r : ℝ, x = r := by
  rcases real_or x with hx | hx
  · exact hx
  · obtain ⟨r, hr⟩ := h
    rcases infinite_add y hx with e | e
    · exact absurd (hr.symm.trans e) (EReal.coe_ne_top r)
    · exact absurd (hr.symm.trans e) (EReal.coe_ne_bot r)

end Cert.Proof.Alike
-- ==== Proof.KernelScalars.lean ====
module

public import proofs.«01_k».proof.Proof.Gen.KernelIdeal.Skeleton
public import proofs.«01_k».proof.Proof.Small
public import proofs.«01_k».proof.Proof.Alike
public import Idealize.ShloMosaic.Lib.Pointwise

@[expose] public section

/-! # The kernel's scalars: the fundamental matrix from the cameras

The kernel forms each batch's fundamental matrix in scalars, from the nine entries of each of `K0`, `K1` and `R` and the
three of `t`. `Loads` holds what it loads, `Loads.vN` names the scalar the program computes as its value `N`, and
`entry_*` say which entry of `Spec.fund` each of the last nine is. -/

noncomputable section

namespace Cert.Proof.KernelScalars

open Cert.KernelIdeal Cert.KernelIdeal.Gen
open Cert.Proof.Spec Cert.Proof.Reals Cert.Proof.Alike
open Idealize.ShloMosaic Idealize.ShloMosaic.TcCoe

/-- What the scalar part loads: the two camera matrices, the rotation and the shift. -/
structure Loads where
  a : Mat
  b : Mat
  r : Mat
  t : Fin 3 → EReal

namespace Loads

variable (L : Loads)

def v60 : EReal := k0_pay3 (F := Ideal) (L.t 0)
def v71 : EReal := k0_pay7 (F := Ideal) (L.t 2)
def v73 : EReal := k0_pay8 (F := Ideal) L.v60
def v75 : EReal := k0_pay9 (F := Ideal) (L.t 0)
def v77 : EReal := k0_pay10 (F := Ideal) (L.t 1)
def v79 : EReal := k0_pay11 (F := Ideal) (L.t 0)
def v81 : EReal := k0_pay12 (F := Ideal) L.v60
def v83 : EReal := k0_pay13 (F := Ideal) (L.r 0 0)
def v85 : EReal := k0_pay14 (F := Ideal) (L.r 0 1)
def v87 : EReal := k0_pay15 (F := Ideal) (L.r 0 2)
def v89 : EReal := k0_pay16 (F := Ideal) (L.r 1 0)
def v91 : EReal := k0_pay17 (F := Ideal) (L.r 1 1)
def v93 : EReal := k0_pay18 (F := Ideal) (L.r 1 2)
def v95 : EReal := k0_pay19 (F := Ideal) (L.r 2 0)
def v97 : EReal := k0_pay20 (F := Ideal) (L.r 2 1)
def v99 : EReal := k0_pay21 (F := Ideal) (L.r 2 2)
def v104 : EReal := k0_pay22 (F := Ideal) (L.r 0 0) (L.r 1 0) (L.r 2 0) (L.t 1) (L.t 2) L.v60
def v109 : EReal := k0_pay23 (F := Ideal) (L.r 0 1) (L.r 1 1) (L.r 2 1) (L.t 1) (L.t 2) L.v60
def v114 : EReal := k0_pay24 (F := Ideal) (L.r 0 2) (L.r 1 2) (L.r 2 2) (L.t 1) (L.t 2) L.v60
def v117 : EReal := k0_pay25 (F := Ideal) (L.r 0 0) (L.r 1 0) (L.t 2) L.v60
def v119 : EReal := k0_pay26 (F := Ideal) L.v75 L.v95 L.v117
def v124 : EReal := k0_pay27 (F := Ideal) L.v71 L.v73 L.v75 L.v85 L.v91 L.v97
def v129 : EReal := k0_pay28 (F := Ideal) L.v71 L.v73 L.v75 L.v87 L.v93 L.v99
def v134 : EReal := k0_pay29 (F := Ideal) L.v77 L.v79 L.v81 L.v83 L.v89 L.v95
def v139 : EReal := k0_pay30 (F := Ideal) L.v77 L.v79 L.v81 L.v85 L.v91 L.v97
def v144 : EReal := k0_pay31 (F := Ideal) L.v77 L.v79 L.v81 L.v87 L.v93 L.v99
def v154 : EReal := k0_pay34 (F := Ideal) (L.a 1 0) (L.a 1 1) (L.a 2 0) (L.a 2 1)
def v160 : EReal := k0_pay35 (F := Ideal) (L.a 0 0) (L.a 0 1) (L.a 0 2) (L.a 1 0) (L.a 1 1) (L.a 1 2) (L.a 2 0) (L.a 2 1) (L.a 2 2)
def v161 : EReal := k0_pay36 (F := Ideal) (L.a 0 0) (L.a 0 1) (L.a 0 2) (L.a 1 0) (L.a 1 1) (L.a 1 2) (L.a 2 0) (L.a 2 1) (L.a 2 2)
def v166 : EReal := k0_pay37 (F := Ideal) (L.a 0 0) (L.a 0 1) (L.a 0 2) (L.a 1 0) (L.a 1 1) (L.a 1 2) (L.a 2 0) (L.a 2 1) (L.a 2 2)
def v170 : EReal := k0_pay38 (F := Ideal) (L.a 0 0) (L.a 0 1) (L.a 0 2) (L.a 1 0) (L.a 1 1) (L.a 1 2) (L.a 2 0) (L.a 2 1) (L.a 2 2)
def v171 : EReal := k0_pay39 (F := Ideal) (L.a 0 0) (L.a 0 1) (L.a 0 2) (L.a 1 0) (L.a 1 1) (L.a 1 2) (L.a 2 0) (L.a 2 1) (L.a 2 2)
def v174 : EReal := k0_pay40 (F := Ideal) (L.a 0 0) (L.a 0 2) (L.a 2 0) (L.a 2 2)
def v192 : EReal := k0_pay41 (F := Ideal) L.v104
def v194 : EReal := k0_pay42 (F := Ideal) L.v109
def v196 : EReal := k0_pay43 (F := Ideal) L.v114
def v198 : EReal := k0_pay44 (F := Ideal) L.v119
def v200 : EReal := k0_pay45 (F := Ideal) L.v124
def v202 : EReal := k0_pay46 (F := Ideal) L.v129
def v204 : EReal := k0_pay47 (F := Ideal) L.v134
def v206 : EReal := k0_pay48 (F := Ideal) L.v139
def v208 : EReal := k0_pay49 (F := Ideal) L.v144
def v210 : EReal := k0_pay50 (F := Ideal) L.v161
def v212 : EReal := k0_pay51 (F := Ideal) L.v166
def v214 : EReal := k0_pay52 (F := Ideal) L.v170
def v216 : EReal := k0_pay53 (F := Ideal) L.v171
def v218 : EReal := k0_pay54 (F := Ideal) L.v160 L.v174
def v220 : EReal := k0_pay55 (F := Ideal) (L.a 0 0) (L.a 0 2) (L.a 1 0) (L.a 1 2) L.v160
def v222 : EReal := k0_pay56 (F := Ideal) L.v154 L.v160
def v224 : EReal := k0_pay57 (F := Ideal) (L.a 0 0) (L.a 0 1) (L.a 2 0) (L.a 2 1) L.v160
def v226 : EReal := k0_pay58 (F := Ideal) (L.a 0 0) (L.a 0 1) (L.a 1 0) (L.a 1 1) L.v160
def v231 : EReal := k0_pay59 (F := Ideal) L.v104 L.v109 L.v114 L.v154 L.v160 L.v161 L.v171
def v232 : EReal := k0_pay60 (F := Ideal) L.v104 L.v166
def v236 : EReal := k0_pay61 (F := Ideal) L.v194 L.v196 L.v218 L.v224 L.v232
def v241 : EReal := k0_pay62 (F := Ideal) L.v192 L.v194 L.v196 L.v214 L.v220 L.v226
def v246 : EReal := k0_pay63 (F := Ideal) L.v198 L.v200 L.v202 L.v210 L.v216 L.v222
def v251 : EReal := k0_pay64 (F := Ideal) L.v198 L.v200 L.v202 L.v212 L.v218 L.v224
def v256 : EReal := k0_pay65 (F := Ideal) L.v198 L.v200 L.v202 L.v214 L.v220 L.v226
def v261 : EReal := k0_pay66 (F := Ideal) L.v204 L.v206 L.v208 L.v210 L.v216 L.v222
def v266 : EReal := k0_pay67 (F := Ideal) L.v204 L.v206 L.v208 L.v212 L.v218 L.v224
def v271 : EReal := k0_pay68 (F := Ideal) L.v204 L.v206 L.v208 L.v214 L.v220 L.v226
def v278 : EReal := k0_pay70 (F := Ideal) (L.b 1 0) (L.b 1 2) (L.b 2 0) (L.b 2 2)
def v281 : EReal := k0_pay71 (F := Ideal) (L.b 1 0) (L.b 1 1) (L.b 2 0) (L.b 2 1)
def v287 : EReal := k0_pay72 (F := Ideal) (L.b 0 0) (L.b 0 1) (L.b 0 2) (L.b 1 0) (L.b 1 1) (L.b 1 2) (L.b 2 0) (L.b 2 1) (L.b 2 2)
def v288 : EReal := k0_pay73 (F := Ideal) (L.b 0 0) (L.b 0 1) (L.b 0 2) (L.b 1 0) (L.b 1 1) (L.b 1 2) (L.b 2 0) (L.b 2 1) (L.b 2 2)
def v289 : EReal := k0_pay74 (F := Ideal) (L.b 0 1) (L.b 2 2)
def v290 : EReal := k0_pay75 (F := Ideal) (L.b 0 2) (L.b 2 1)
def v319 : EReal := k0_pay76 (F := Ideal) L.v288
def v321 : EReal := k0_pay77 (F := Ideal) L.v278 L.v287
def v323 : EReal := k0_pay78 (F := Ideal) L.v281 L.v287
def v325 : EReal := k0_pay79 (F := Ideal) L.v287 L.v289 L.v290
def v327 : EReal := k0_pay80 (F := Ideal) (L.b 0 0) (L.b 0 2) (L.b 2 0) (L.b 2 2) L.v287
def v329 : EReal := k0_pay81 (F := Ideal) (L.b 0 0) (L.b 0 1) (L.b 2 0) (L.b 2 1) L.v287
def v331 : EReal := k0_pay82 (F := Ideal) (L.b 0 1) (L.b 0 2) (L.b 1 1) (L.b 1 2) L.v287
def v333 : EReal := k0_pay83 (F := Ideal) (L.b 0 0) (L.b 0 2) (L.b 1 0) (L.b 1 2) L.v287
def v335 : EReal := k0_pay84 (F := Ideal) (L.b 0 0) (L.b 0 1) (L.b 1 0) (L.b 1 1) L.v287
def v337 : EReal := k0_pay85 (F := Ideal) L.v231
def v339 : EReal := k0_pay86 (F := Ideal) L.v236
def v341 : EReal := k0_pay87 (F := Ideal) L.v241
def v343 : EReal := k0_pay88 (F := Ideal) L.v246
def v345 : EReal := k0_pay89 (F := Ideal) L.v251
def v347 : EReal := k0_pay90 (F := Ideal) L.v256
def v383 : EReal := k0_pay94 (F := Ideal) L.v271 L.v325 L.v327 L.v329 L.v341 L.v347
def v388 : EReal := k0_pay95 (F := Ideal) L.v261 L.v331 L.v333 L.v335 L.v337 L.v343
def v393 : EReal := k0_pay96 (F := Ideal) L.v266 L.v331 L.v333 L.v335 L.v339 L.v345
def v398 : EReal := k0_pay97 (F := Ideal) L.v271 L.v331 L.v333 L.v335 L.v341 L.v347
def v400 : EReal := k0_pay98 (F := Ideal) L.v261 L.v319 L.v321 L.v323 L.v337 L.v343
def v402 : EReal := k0_pay99 (F := Ideal) L.v266 L.v319 L.v321 L.v323 L.v339 L.v345
def v404 : EReal := k0_pay100 (F := Ideal) L.v271 L.v319 L.v321 L.v323 L.v341 L.v347
def v406 : EReal := k0_pay101 (F := Ideal) L.v261 L.v325 L.v327 L.v329 L.v337 L.v343
def v407 : EReal := k0_pay102 (F := Ideal) L.v266 L.v325 L.v327 L.v329 L.v339 L.v345

end Loads

/-- The scalar zero and one of the program. -/
abbrev zero : EReal := Ideal.ofBits .f32 0x00000000#32

abbrev one : EReal := Ideal.ofBits .f32 0x3F800000#32

/-- The reciprocal of the determinant as the program forms it. -/
def recip (m : Mat) : EReal :=
  Ideal.div one (m 0 0 * (m 1 1 * m 2 2 - m 1 2 * m 2 1) + m 0 1 * (zero - (m 1 0 * m 2 2 - m 1 2 * m 2 0))
    + m 0 2 * (m 1 0 * m 2 1 - m 1 1 * m 2 0))

/-- The inverse as the program forms it. -/
def inverse (m : Mat) : Mat :=
  ![![(m 1 1 * m 2 2 - m 1 2 * m 2 1) * recip m, (zero - (m 0 1 * m 2 2 - m 0 2 * m 2 1)) * recip m,
      (m 0 1 * m 1 2 - m 0 2 * m 1 1) * recip m],
    ![(zero - (m 1 0 * m 2 2 - m 1 2 * m 2 0)) * recip m, (m 0 0 * m 2 2 - m 0 2 * m 2 0) * recip m,
      (zero - (m 0 0 * m 1 2 - m 0 2 * m 1 0)) * recip m],
    ![(m 1 0 * m 2 1 - m 1 1 * m 2 0) * recip m, (zero - (m 0 0 * m 2 1 - m 0 1 * m 2 0)) * recip m,
      (m 0 0 * m 1 1 - m 0 1 * m 1 0) * recip m]]

/-- A negated minor is the cyclic one, up to the sign of an infinity. -/
theorem flip (x y z w : EReal) : Alike (zero - (x * y - z * w)) (z * w - x * y) := by
  rw [show zero = 0 from Ideal.ofBits_zero .f32]
  exact turn _ _

theorem one_eq : one = 1 := Ideal.ofBits_one_f32

/-- It is the inverse, up to the signs of infinities. -/
theorem inverse_alike (m : Mat) (i j : Fin 3) : Alike (inverse m i j) (Spec.inv m i j) := by
  have hr : Alike (recip m) (Ideal.div 1 (∑ x, m 0 x * cof m 0 x)) := by
    unfold recip
    rw [one_eq, Fin.sum_univ_three]
    exact div 1 (add (add (refl _) (mul (refl _) (flip _ _ _ _))) (refl _))
  have flipped : ∀ x y z w : EReal, Alike (zero - (x * y - z * w)) (w * z - y * x) := fun x y z w => by
    rw [mul_comm w, mul_comm y]; exact flip _ _ _ _
  have turned : ∀ a b c d : EReal, Alike (a * b - c * d) (b * a - d * c) := fun a b c d => by rw [mul_comm a, mul_comm c]; exact refl _
  unfold inverse Spec.inv
  fin_cases i <;> fin_cases j
  all_goals refine mul ?_ hr
  all_goals first | exact refl _ | exact flip _ _ _ _ | exact flipped _ _ _ _ | exact turned _ _ _ _

/-- The cross-product matrix as the program forms it. -/
def cross (t : Fin 3 → EReal) : Mat :=
  ![![t 0 - t 0, zero - t 2, t 1], ![t 2, t 0 - t 0, zero - t 0], ![zero - t 1, t 0, t 0 - t 0]]

theorem cross_eq (t : Fin 3 → EReal) (ht : ∃ x : ℝ, t 0 = x) : cross t = skew t := by
  have h0 : t 0 - t 0 = 0 := by
    obtain ⟨x, hx⟩ := ht
    rw [hx, ← EReal.coe_sub, sub_self, EReal.coe_zero]
  have h1 : ∀ x : EReal, zero - x = -x := fun x => by rw [show zero = 0 from Ideal.ofBits_zero .f32, zero_sub]
  unfold cross skew
  rw [h0, h1, h1, h1]

/-- The product as the program forms it. -/
def product (L : Loads) : Mat := fun j x =>
  let e : Mat := fun y z => cross L.t y 0 * L.r 0 z + cross L.t y 1 * L.r 1 z + cross L.t y 2 * L.r 2 z
  let p : Mat := fun y x => e y 0 * inverse L.a 0 x + e y 1 * inverse L.a 1 x + e y 2 * inverse L.a 2 x
  inverse L.b 0 j * p 0 x + inverse L.b 1 j * p 1 x + inverse L.b 2 j * p 2 x

/-- Three products added up, of numbers alike. -/
theorem sum_alike (f f' g g' : Fin 3 → EReal) (hf : ∀ y, Alike (f y) (f' y)) (hg : ∀ y, Alike (g y) (g' y)) :
    Alike (f 0 * g 0 + f 1 * g 1 + f 2 * g 2) (∑ y, f' y * g' y) := by
  rw [Fin.sum_univ_three]
  exact add (add (mul (hf 0) (hg 0)) (mul (hf 1) (hg 1))) (mul (hf 2) (hg 2))

/-- Where the fundamental matrix is finite, that is what the program forms. -/
theorem product_eq (L : Loads) (ht : ∃ x : ℝ, L.t 0 = x) (hF : ∀ i j, ∃ x : ℝ, fund L.a L.b L.r L.t i j = x) :
    product L = fund L.a L.b L.r L.t := by
  funext j x
  refine eq_of_real ?_ (hF j x)
  let e : Mat := fun y z => cross L.t y 0 * L.r 0 z + cross L.t y 1 * L.r 1 z + cross L.t y 2 * L.r 2 z
  refine sum_alike (fun y => inverse L.b y j) (fun y => Spec.inv L.b y j)
    (fun y => e y 0 * inverse L.a 0 x + e y 1 * inverse L.a 1 x + e y 2 * inverse L.a 2 x) (fun y => ∑ z, (∑ w, skew L.t y w * L.r w z) * Spec.inv L.a z x)
    (fun y => inverse_alike _ _ _) (fun y => ?_)
  refine sum_alike (e y) (fun z => ∑ w, skew L.t y w * L.r w z) (fun z => inverse L.a z x) (fun z => Spec.inv L.a z x) (fun z => Or.inl ?_)
    (fun z => inverse_alike _ _ _)
  show cross L.t y 0 * L.r 0 z + cross L.t y 1 * L.r 1 z + cross L.t y 2 * L.r 2 z = _
  rw [cross_eq _ ht, Fin.sum_univ_three]

/-- A matrix whose lines are all finite is finite: its entries are read off the lines of three pixels. -/
theorem real_of_lines (F : Mat) (h : ∀ l j, ∃ x : ℝ, line F j l = x) (j k : Fin 3) : ∃ x : ℝ, F j k = x := by
  have h0 := h 0 j
  have h1 := h 1 j
  have h2 := h 32 j
  have e0 : px 0 = 0 := by show (((0 % 32 : ℕ) : ℝ) : EReal) = 0; norm_num
  have e1 : py 0 = 0 := by show (((0 / 32 : ℕ) : ℝ) : EReal) = 0; norm_num
  have e2 : px 1 = 1 := by show (((1 % 32 : ℕ) : ℝ) : EReal) = 1; norm_num
  have e3 : py 1 = 0 := by show (((1 / 32 : ℕ) : ℝ) : EReal) = 0; norm_num
  have e4 : px 32 = 0 := by show (((32 % 32 : ℕ) : ℝ) : EReal) = 0; norm_num
  have e5 : py 32 = 1 := by show (((32 / 32 : ℕ) : ℝ) : EReal) = 1; norm_num
  unfold line at h0 h1 h2
  rw [e0, e1, zero_mul, zero_mul, add_zero, zero_add] at h0
  rw [e2, e3, zero_mul, one_mul, add_zero] at h1
  rw [e4, e5, zero_mul, one_mul, zero_add] at h2
  fin_cases k
  · exact real_of_add h1
  · exact real_of_add h2
  · exact h0

theorem entry_00 (L : Loads) : L.v400 = product L 0 0 := rfl
theorem entry_01 (L : Loads) : L.v402 = product L 0 1 := rfl
theorem entry_02 (L : Loads) : L.v404 = product L 0 2 := rfl
theorem entry_10 (L : Loads) : L.v406 = product L 1 0 := rfl
theorem entry_11 (L : Loads) : L.v407 = product L 1 1 := rfl
theorem entry_12 (L : Loads) : L.v383 = product L 1 2 := rfl
theorem entry_20 (L : Loads) : L.v388 = product L 2 0 := rfl
theorem entry_21 (L : Loads) : L.v393 = product L 2 1 := rfl
theorem entry_22 (L : Loads) : L.v398 = product L 2 2 := rfl

end Cert.Proof.KernelScalars
-- ==== Proof.Mask.lean ====
module

public import proofs.«01_k».proof.Proof.Spec
public import proofs.«01_k».proof.Proof.Reals

@[expose] public section

/-!
# Which pixels lie near a line

The reference divides by the larger coefficient and compares along one axis; the kernel compares the line's
value at the pixel with twice the larger coefficient. For a line with real coefficients these agree, and at
most 128 pixels qualify.
-/

noncomputable section

namespace Cert.Proof.Mask

open Idealize.ShloMosaic Cert.Proof.Spec Cert.Proof.Reals

theorem coe_max (a b : ℝ) : ((max a b : ℝ) : EReal) = max (a : EReal) b := EReal.coe_strictMono.monotone.map_max

theorem abs_coe (a : ℝ) : max (a : EReal) (-(a : EReal)) = ((|a| : ℝ) : EReal) := by
  rw [← EReal.coe_neg, ← coe_max, abs_eq_max_neg]

theorem max_abs_coe (a b : ℝ) :
    (2 : EReal) * max (max (a : EReal) (-(a : EReal))) (max (b : EReal) (-(b : EReal))) = ((2 * max |a| |b| : ℝ) : EReal) := by
  rw [abs_coe, abs_coe, ← coe_max]; rfl

/-- No number is within 2 of a quotient by zero. -/
theorem not_within_div_zero (y : ℝ) (z : EReal) : ¬ ((y : EReal) < Ideal.div z 0 + 2 ∧ Ideal.div z 0 - 2 < (y : EReal)) := by
  have h2 : (2 : EReal) = ((2 : ℝ) : EReal) := rfl
  rintro ⟨h, h'⟩
  unfold Ideal.div at h h'
  rw [if_pos rfl] at h h'
  split at h
  · rename_i hz
    rw [if_pos hz, h2, EReal.top_sub_coe] at h'
    simp at h'
  · rw [EReal.bot_add] at h
    simp at h

/-- Comparing along the axis of `b`. -/
theorem within_iff {b : ℝ} (hb : b ≠ 0) (y r : ℝ) :
    ((y : EReal) < Ideal.div (r : EReal) b + 2 ∧ Ideal.div (r : EReal) b - 2 < (y : EReal)) ↔ |b * y - r| < 2 * |b| := by
  have h2 : (2 : EReal) = ((2 : ℝ) : EReal) := rfl
  rw [div_real r hb, h2, ← EReal.coe_add, ← EReal.coe_sub, EReal.coe_lt_coe_iff, EReal.coe_lt_coe_iff]
  have : b * y - r = b * (y - r / b) := by field_simp
  rw [this, abs_mul, mul_comm 2, mul_lt_mul_iff_right₀ (abs_pos.2 hb), abs_lt]
  constructor <;> rintro ⟨h, h'⟩ <;> constructor <;> linarith

/-- `Near` for real coefficients: the distance test without a division. -/
theorem near_real (a b c : ℝ) (s : Fin 1024) :
    Near a b c s ↔ |a * (s.val % 32 : ℕ) + b * (s.val / 32 : ℕ) + c| < 2 * max |a| |b| := by
  unfold Near px py
  rw [abs_coe, abs_coe]
  simp only [EReal.coe_le_coe_iff]
  have e1 : ∀ u w : ℝ, -((a : EReal) * ((u : ℝ) : EReal) + (w : EReal)) = ((-(a * u + w) : ℝ) : EReal) := fun u w => rfl
  have e2 : ∀ u w : ℝ, -((b : EReal) * ((u : ℝ) : EReal) + (w : EReal)) = ((-(b * u + w) : ℝ) : EReal) := fun u w => rfl
  split
  · rename_i h
    rw [max_eq_right h]
    by_cases hb : b = 0
    · subst hb
      have := not_within_div_zero (s.val / 32 : ℕ) (-(a * (((s.val % 32 : ℕ) : ℝ) : EReal) + c))
      rw [EReal.coe_zero]
      simp only [this, false_iff, abs_zero, mul_zero, not_lt]
      exact abs_nonneg _
    · rw [e1, within_iff hb]
      rw [show b * ((s.val / 32 : ℕ) : ℝ) - -(a * ((s.val % 32 : ℕ) : ℝ) + c) = a * (s.val % 32 : ℕ) + b * (s.val / 32 : ℕ) + c by ring]
  · rename_i h
    have h := not_le.1 h
    have ha : a ≠ 0 := fun e => by rw [e, abs_zero] at h; exact absurd (abs_nonneg b) (not_le.2 h)
    rw [max_eq_left h.le, e2, within_iff ha]
    rw [show a * ((s.val % 32 : ℕ) : ℝ) - -(b * ((s.val / 32 : ℕ) : ℝ) + c) = a * (s.val % 32 : ℕ) + b * (s.val / 32 : ℕ) + c by ring]

/-- The kernel's test, its column coordinate `⊥` at pixel 0, picks the pixels of `near`. -/
theorem test_iff (a b c : ℝ) (h : (a : EReal) ≠ 0 ∨ 2 * max (b : EReal) (-(b : EReal)) ≤ max (c : EReal) (-(c : EReal))) (s : Fin 1024) (z : EReal)
    (hz : z = (a : EReal) * (if s.val = 0 then ⊥ else px s) + b * py s + c) :
    max z (-z) < 2 * max (max (a : EReal) (-(a : EReal))) (max (b : EReal) (-(b : EReal))) ↔ s ∈ near a b c := by
  rw [mem_near, max_abs_coe, near_real]
  by_cases hs : s.val = 0
  · rw [if_pos hs] at hz
    simp only [hs, ne_eq, not_true, false_and, iff_false, not_lt]
    have hp : py s = ((0 : ℝ) : EReal) := by unfold py; rw [hs]; norm_num
    rw [hp, ← EReal.coe_mul, mul_zero] at hz
    rcases lt_trichotomy a 0 with ha | ha | ha
    · rw [EReal.coe_mul_bot_of_neg ha, EReal.top_add_coe, EReal.top_add_coe] at hz
      rw [hz]; simp
    · subst ha
      have h := h.resolve_left (by simp)
      rw [abs_coe, abs_coe] at h
      rw [EReal.coe_zero, zero_mul, zero_add, zero_add] at hz
      rw [hz, abs_coe, abs_zero, max_eq_right (abs_nonneg b)]
      exact h
    · rw [EReal.coe_mul_bot_of_pos ha, EReal.bot_add, EReal.bot_add] at hz
      rw [hz]; simp
  · rw [if_neg hs] at hz
    have : z = ((a * (s.val % 32 : ℕ) + b * (s.val / 32 : ℕ) + c : ℝ) : EReal) := hz
    rw [this, abs_coe, EReal.coe_lt_coe_iff]
    simp [hs]

/-- At most four whole numbers lie within 2 of a real, so a band over 32 positions holds at most 128 points. -/
theorem card_band (A : Finset (Fin 1024)) (u w : Fin 1024 → ℕ) (hu : ∀ s, u s < 32)
    (hinj : ∀ s s', u s = u s' → w s = w s' → s = s') (q : ℕ → ℝ) (hA : ∀ s ∈ A, |(w s : ℝ) - q (u s)| < 2) :
    A.card ≤ 128 := by
  have hb : ∀ s ∈ A, 0 ≤ (w s : ℤ) - ⌊q (u s)⌋ + 1 ∧ (w s : ℤ) - ⌊q (u s)⌋ + 1 < 4 := fun s hs => by
    have h := abs_lt.1 (hA s hs)
    have h1 := Int.floor_le (q (u s))
    have h2 := Int.lt_floor_add_one (q (u s))
    constructor
    · have : (⌊q (u s)⌋ : ℝ) - 2 < (w s : ℤ) := by push_cast; linarith
      have : ⌊q (u s)⌋ - 2 < (w s : ℤ) := by exact_mod_cast this
      omega
    · have : ((w s : ℤ) : ℝ) < (⌊q (u s)⌋ : ℝ) + 3 := by push_cast; linarith
      have : (w s : ℤ) < ⌊q (u s)⌋ + 3 := by exact_mod_cast this
      omega
  rw [← Finset.card_range 128]
  refine Finset.card_le_card_of_injOn (fun s => u s * 4 + ((w s : ℤ) - ⌊q (u s)⌋ + 1).toNat) (fun s hs => ?_) fun s hs s' hs' e => ?_
  · have := hb s hs; have := hu s
    simp only [Finset.coe_range, Set.mem_Iio]
    omega
  · have h1 := hb s hs; have h2 := hb s' hs'
    simp only at e
    have eu : u s = u s' := by omega
    rw [eu] at e h1
    exact hinj s s' eu (by omega)

theorem card_near (a b c : ℝ) : (near a b c).card ≤ 128 := by
  have hn : ∀ s ∈ near (a : EReal) b c, |a * (s.val % 32 : ℕ) + b * (s.val / 32 : ℕ) + c| < 2 * max |a| |b| := fun s hs =>
    (near_real a b c s).1 ((mem_near _ _ _ s).1 hs).2
  rcases le_or_gt |a| |b| with h | h
  · rw [max_eq_right h] at hn
    by_cases hb : b = 0
    · refine (Finset.card_eq_zero.2 (Finset.eq_empty_of_forall_notMem fun s hs => ?_)).le.trans (by norm_num)
      have := hn s hs
      rw [hb, abs_zero, mul_zero] at this
      exact absurd (abs_nonneg _) (not_le.2 this)
    · refine card_band _ (fun s => s.val % 32) (fun s => s.val / 32) (fun s => Nat.mod_lt _ (by norm_num))
        (fun s s' h h' => Fin.ext (by omega)) (fun x => -(a * x + c) / b) fun s hs => ?_
      have := hn s hs
      have e : a * (s.val % 32 : ℕ) + b * (s.val / 32 : ℕ) + c = b * (((s.val / 32 : ℕ) : ℝ) - -(a * (s.val % 32 : ℕ) + c) / b) := by
        field_simp; ring
      rw [e, abs_mul, mul_comm 2] at this
      exact lt_of_mul_lt_mul_left this (abs_nonneg b)
  · rw [max_eq_left h.le] at hn
    have ha : a ≠ 0 := fun e => by rw [e, abs_zero] at h; exact absurd (abs_nonneg b) (not_le.2 h)
    refine card_band _ (fun s => s.val / 32) (fun s => s.val % 32) (fun s => by have := s.isLt; omega)
      (fun s s' h h' => Fin.ext (by omega)) (fun x => -(b * x + c) / a) fun s hs => ?_
    have := hn s hs
    have e : a * (s.val % 32 : ℕ) + b * (s.val / 32 : ℕ) + c = a * (((s.val % 32 : ℕ) : ℝ) - -(b * (s.val / 32 : ℕ) + c) / a) := by
      field_simp; ring
    rw [e, abs_mul, mul_comm 2] at this
    exact lt_of_mul_lt_mul_left this (abs_nonneg a)

end Cert.Proof.Mask
-- ==== Proof.KernelMask.lean ====
module

public import proofs.«01_k».proof.Proof.KernelScalars
public import proofs.«01_k».proof.Proof.Mask

@[expose] public section

/-! # The kernel's mask: the bias it adds to each logit -/

noncomputable section

namespace Cert.Proof.KernelMask

open Cert.KernelIdeal Cert.KernelIdeal.Gen
open Cert.Proof.Spec Cert.Proof.Reals Cert.Proof.KernelScalars
open Idealize.ShloMosaic Idealize.ShloMosaic.TcCoe Idealize.ShloMosaic.Tactic

/-- The bias of a block of 512 pixels, from the scalars. -/
def bias (L : Loads) (w : BitVec 32) : FVec Ideal S512x1024 .f32 :=
  k0_pay113 (k0_pay106 w L.v400 L.v402 L.v404) (k0_pay107 w L.v383 L.v406 L.v407) (k0_pay108 w L.v388 L.v393 L.v398)
    (k0_pay109 w L.v383 L.v400 L.v402 L.v404 L.v406 L.v407) k0_pay110 k0_pay111 k0_pay112

/-- The pixel in row `p` of block `i`. -/
abbrev pixel (i : Fin 2) (p : Fin 512) : Fin 1024 := ⟨i.val * 512 + p.val, by omega⟩

theorem row_word (i : Fin 2) (p : Fin 512) :
    IntOp.addi (BitVec.ofNat 32 p.val) (Scalar.muli (BitVec.ofNat 32 i.val) 512#32) = BitVec.ofNat 32 (pixel i p).val := by
  show BitVec.ofNat 32 p.val + BitVec.ofNat 32 i.val * 512#32 = _
  apply BitVec.eq_of_toNat_eq
  simp only [BitVec.toNat_add, BitVec.toNat_mul, BitVec.toNat_ofNat, Nat.mod_mod, Nat.mod_mul_mod, Nat.add_mod_mod, Nat.mod_add_mod]
  omega

/-- The row of a pixel, as the program divides. -/
theorem quotient (l : Fin 1024) :
    Ideal.liftRound Int.floor (FloatOps.sitofp (F := Ideal) .f32 (BitVec.ofNat 32 l.val) * Ideal.ofBits .f32 0x3D000000#32) = py l := by
  rw [Small.sitofp_ofNat l.isLt, inv32_bits, ← EReal.coe_mul]
  show (((⌊(l.val : ℝ) * (1 / 32)⌋ : ℤ) : ℝ) : EReal) = (((l.val / 32 : ℕ) : ℝ) : EReal)
  congr 1
  have : ⌊(l.val : ℝ) * (1 / 32)⌋ = ((l.val / 32 : ℕ) : ℤ) := by
    rw [Int.floor_eq_iff]
    have h := Nat.div_add_mod l.val 32
    have h2 := Nat.mod_lt l.val (show 0 < 32 by norm_num)
    have h' : (32 : ℝ) * ((l.val / 32 : ℕ) : ℝ) + ((l.val % 32 : ℕ) : ℝ) = (l.val : ℝ) := by exact_mod_cast h
    have h2' : ((l.val % 32 : ℕ) : ℝ) < 32 := by exact_mod_cast h2
    have h3 : (0 : ℝ) ≤ ((l.val % 32 : ℕ) : ℝ) := Nat.cast_nonneg _
    constructor
    · rw [Int.cast_natCast]; linarith
    · rw [Int.cast_natCast]; linarith
  rw [this, Int.cast_natCast]

/-- The column of a pixel, as the program subtracts. -/
theorem remainder (l : Fin 1024) :
    FloatOps.sitofp (F := Ideal) .f32 (BitVec.ofNat 32 l.val) - py l * Ideal.ofBits .f32 0x42000000#32 = px l := by
  rw [Small.sitofp_ofNat l.isLt, thirtytwo_bits]
  unfold px py
  rw [← EReal.coe_mul, ← EReal.coe_sub]
  congr 1
  have h := Nat.div_add_mod l.val 32
  have h' : (32 : ℝ) * ((l.val / 32 : ℕ) : ℝ) + ((l.val % 32 : ℕ) : ℝ) = (l.val : ℝ) := by exact_mod_cast h
  linarith

/-- Pixel 0 is the one whose number is below one half. -/
theorem first_pixel (s : Fin 1024) :
    FloatOps.sitofp (F := Ideal) .f32 (BitVec.ofNat 32 s.val) < Ideal.ofBits .f32 0x3F000000#32 ↔ s.val = 0 := by
  rw [Small.sitofp_ofNat s.isLt, half_bits, EReal.coe_lt_coe_iff]
  constructor
  · intro h
    by_contra hn
    have : (1 : ℝ) ≤ s.val := by exact_mod_cast Nat.one_le_iff_ne_zero.2 hn
    linarith
  · intro h; rw [h]; norm_num

theorem mask_word : Named.named (F := Ideal) κ "mask" (φ := .f32) 4048155338#32 = (⊥ : EReal) :=
  IdealRules.named_const.ideal_named_scalar _ _ _ _ rfl

open Classical in
/-- The bias: 0 at the pixels near the line, `⊥` at the others. -/
theorem bias_apply (L : Loads) (i : Fin 2) (p : Fin 512) (s : Fin 1024) (F : Mat) (hF : product L = F)
    (hl : ∀ j, ∃ x : ℝ, line F j (pixel i p) = x)
    (ho : line F 0 (pixel i p) ≠ 0 ∨ 2 * max (line F 1 (pixel i p)) (-line F 1 (pixel i p)) ≤ max (line F 2 (pixel i p)) (-line F 2 (pixel i p))) :
    (bias L (BitVec.ofNat 32 i.val) (ix2 p s) : EReal)
      = if s ∈ near (line F 0 (pixel i p)) (line F 1 (pixel i p)) (line F 2 (pixel i p)) then 0 else ⊥ := by
  have hA : k0_pay106 (F := Ideal) (BitVec.ofNat 32 i.val) L.v400 L.v402 L.v404 (ix2 p 0) = (line F 0 (pixel i p) : EReal) := by
    pointwise [k0_pay106, k0_pay105, k0_pay104, k0_pay103]
    rw [row_word, quotient, remainder, entry_00, entry_01, entry_02, hF]
    unfold line
    rw [mul_comm (F 0 0), mul_comm (F 0 1)]
  have hB : k0_pay107 (F := Ideal) (BitVec.ofNat 32 i.val) L.v383 L.v406 L.v407 (ix2 p 0) = (line F 1 (pixel i p) : EReal) := by
    pointwise [k0_pay107, k0_pay105, k0_pay104, k0_pay103]
    rw [row_word, quotient, remainder, entry_10, entry_11, entry_12, hF]
    unfold line
    rw [mul_comm (F 1 0), mul_comm (F 1 1)]
  have hC : k0_pay108 (F := Ideal) (BitVec.ofNat 32 i.val) L.v388 L.v393 L.v398 (ix2 p 0) = (line F 2 (pixel i p) : EReal) := by
    pointwise [k0_pay108, k0_pay105, k0_pay104, k0_pay103]
    rw [row_word, quotient, remainder, entry_20, entry_21, entry_22, hF]
    unfold line
    rw [mul_comm (F 2 0), mul_comm (F 2 1)]
  have hT : k0_pay109 (F := Ideal) (BitVec.ofNat 32 i.val) L.v383 L.v400 L.v402 L.v404 L.v406 L.v407 (ix2 p 0)
      = (2 * max (max (line F 0 (pixel i p)) (-line F 0 (pixel i p))) (max (line F 1 (pixel i p)) (-line F 1 (pixel i p))) : EReal) := by
    pointwise [k0_pay109]
    rw [hA, hB, two_bits]
    rfl
  unfold bias
  pointwise [k0_pay113, k0_pay110, k0_pay111, k0_pay112]
  rw [hA, hB, hC, hT, quotient, remainder, mask_word]
  obtain ⟨a, ha⟩ := hl 0
  obtain ⟨b, hb⟩ := hl 1
  obtain ⟨c, hc⟩ := hl 2
  rw [ha, hb, hc] at ho ⊢
  refine if_congr (Mask.test_iff a b c ho s _ ?_) rfl rfl
  rw [nan_bits, if_congr (first_pixel s) rfl rfl]

end Cert.Proof.KernelMask
-- ==== Proof.Softmax.lean ====
module

public import proofs.«01_k».proof.Proof.Spec
public import proofs.«01_k».proof.Proof.Reals
public import Idealize.ShloMosaic.Lib.Pointwise

@[expose] public section

/-!
# Two ways to normalise the same weights

The reference subtracts the largest logit and divides each weight; the kernel exponentiates the logits as
they are and multiplies the weighted sum by the reciprocal of the weights' total, kept above a tiny constant.
-/

noncomputable section

namespace Cert.Proof.Softmax

open Idealize.ShloMosaic Cert.Proof.Spec Cert.Proof.Reals

/-- A decimal above Euler's number. -/
theorem exp_one_le : Real.exp 1 ≤ 2.72 := by
  refine (Real.exp_bound' (x := 1) zero_le_one le_rfl (n := 8) (by norm_num)).trans ?_
  norm_num [Finset.sum_range_succ, Nat.factorial]

/-- The tiny constant is below the exponential of -69. -/
theorem tiny_le_exp : (10633824 / 2 ^ 123 : ℝ) ≤ Real.exp (-69) := by
  rw [Real.exp_neg, le_inv_comm₀ (by norm_num) (Real.exp_pos _)]
  have h : Real.exp 69 = Real.exp 1 ^ 69 := by rw [← Real.exp_nat_mul]; norm_num
  rw [h]
  calc Real.exp 1 ^ 69 ≤ 2.72 ^ 69 :=
        pow_le_pow_left₀ (Real.exp_pos _).le exp_one_le _
    _ ≤ _ := by norm_num

variable (A : Finset (Fin 1024)) (x v : Fin 1024 → EReal) (y : Fin 1024 → ℝ)

/-- `attend` over real logits: each value times a real weight. -/
theorem attend_real (hx : ∀ s ∈ A, x s = y s) (hA : A.Nonempty) :
    attend A x v = ∑ s ∈ A, ((Real.exp (y s) / ∑ s ∈ A, Real.exp (y s) : ℝ) : EReal) * v s := by
  have hS : ∑ s ∈ A, Ideal.exp (x s) = ((∑ s ∈ A, Real.exp (y s) : ℝ) : EReal) := by
    rw [coe_sum]; exact Finset.sum_congr rfl fun s hs => by rw [hx s hs, Ideal.exp_coe]
  have h0 : (∑ s ∈ A, Real.exp (y s)) ≠ 0 := (Finset.sum_pos (fun s _ => Real.exp_pos _) hA).ne'
  unfold attend
  rw [hS]
  exact Finset.sum_congr rfl fun s hs => by rw [hx s hs, Ideal.exp_coe, div_real _ h0]

/-- Subtracting one real from every logit changes nothing. -/
theorem attend_sub (hx : ∀ s ∈ A, x s = y s) (M : ℝ) : attend A (fun s => x s - M) v = attend A x v := by
  rcases A.eq_empty_or_nonempty with rfl | hA
  · simp [attend]
  · rw [attend_real A x v y hx hA, attend_real A (fun s => x s - M) v (fun s => y s - M) (fun s hs => by rw [hx s hs, EReal.coe_sub]) hA]
    refine Finset.sum_congr rfl fun s _ => ?_
    congr 2
    simp only [Real.exp_sub]
    rw [← Finset.sum_div, div_div_div_cancel_right₀ (Real.exp_pos M).ne']

/-- The kernel's form: one reciprocal of the clamped total, after the weighted sum. -/
theorem attend_mul (hx : ∀ s ∈ A, x s = y s) (hy : ∀ s ∈ A, -69 ≤ y s) :
    (∑ s ∈ A, Ideal.exp (x s) * v s) * Ideal.div 1 (max (∑ s ∈ A, Ideal.exp (x s)) (Ideal.ofBits .f32 0x0DA24260#32))
      = attend A x v := by
  rcases A.eq_empty_or_nonempty with rfl | hA
  · simp [attend]
  · have hS : ∑ s ∈ A, Ideal.exp (x s) = ((∑ s ∈ A, Real.exp (y s) : ℝ) : EReal) := by
      rw [coe_sum]; exact Finset.sum_congr rfl fun s hs => by rw [hx s hs, Ideal.exp_coe]
    have hpos : 0 < ∑ s ∈ A, Real.exp (y s) := Finset.sum_pos (fun s _ => Real.exp_pos _) hA
    have hle : (10633824 / 2 ^ 123 : ℝ) ≤ ∑ s ∈ A, Real.exp (y s) := by
      obtain ⟨a, ha⟩ := hA
      calc _ ≤ Real.exp (-69) := tiny_le_exp
        _ ≤ Real.exp (y a) := Real.exp_le_exp.2 (hy a ha)
        _ ≤ _ := Finset.single_le_sum (f := fun s => Real.exp (y s)) (fun s _ => (Real.exp_pos _).le) ha
    rw [attend_real A x v y hx hA, hS, tiny_bits, max_eq_left (EReal.coe_le_coe_iff.2 hle), ← EReal.coe_one,
      div_real _ hpos.ne', sum_mul_real _ _ (by positivity)]
    refine Finset.sum_congr rfl fun s hs => ?_
    rw [hx s hs, Ideal.exp_coe, mul_right_comm, ← EReal.coe_mul, mul_one_div]

/-- The reference's form: over 128 candidates that are the members of `A` in some order, and others whose logit is
    `⊥`, the largest logit subtracted; when there is no member, the weights 0. -/
theorem attend_candidates (p : Fin 128 → Fin 1024) (hsum : ∀ f : Fin 1024 → EReal, ∑ j, (if p j ∈ A then f (p j) else 0) = ∑ s ∈ A, f s)
    (hx : ∀ s ∈ A, x s = y s) (L u : Fin 128 → EReal) (hL : ∀ j, L j = if p j ∈ A then x (p j) else ⊥)
    (hu : ∀ j, p j ∈ A → u j = v (p j)) (any : BitVec 1) (hany : any = 1#1 ↔ ∃ j, p j ∈ A) (hex : ∀ s ∈ A, ∃ j, p j = s) :
    ∑ j, Scalar.select any (Ideal.div (Ideal.exp (L j - max ⊥ (Finset.fold max ⊥ L Finset.univ)))
        (∑ j, Ideal.exp (L j - max ⊥ (Finset.fold max ⊥ L Finset.univ)))) 0 * u j = attend A x v := by
  rcases A.eq_empty_or_nonempty with rfl | hA
  · have h0 : any ≠ 1#1 := fun h => by
      obtain ⟨j, hj⟩ := hany.1 h
      exact absurd hj (Finset.notMem_empty _)
    have hz : any = 0#1 := (BitVec.eq_zero_or_eq_one any).resolve_right h0
    subst hz
    rw [attend, Finset.sum_empty]
    exact Finset.sum_eq_zero fun j _ => zero_mul _
  · obtain ⟨a, ha⟩ := hA
    obtain ⟨j0, hj0⟩ := hex a ha
    have h1 : any = 1#1 := hany.2 ⟨j0, hj0 ▸ ha⟩
    subst h1
    have hle : ((y a : ℝ) : EReal) ≤ max ⊥ (Finset.fold max ⊥ L Finset.univ) := by
      refine le_max_of_le_right ((Finset.le_fold_max _).2 (Or.inr ⟨j0, Finset.mem_univ _, ?_⟩))
      rw [hL, hj0, if_pos ha, hx a ha]
    have hlt : max ⊥ (Finset.fold max ⊥ L Finset.univ) < ⊤ := by
      refine max_lt bot_lt_top ((Finset.fold_max_lt _).2 ⟨bot_lt_top, fun j _ => ?_⟩)
      rw [hL]
      split
      · rename_i h; rw [hx _ h]; exact EReal.coe_lt_top _
      · exact bot_lt_top
    obtain ⟨r, hr, -⟩ := exists_real hle hlt
    rw [hr]
    have he : ∀ j, Ideal.exp (L j - r) = if p j ∈ A then Ideal.exp (x (p j) - r) else 0 := fun j => by
      rw [hL]
      split
      · rfl
      · rw [EReal.bot_sub, Ideal.exp_bot]
    have hZ : ∑ j, Ideal.exp (L j - r) = ∑ s ∈ A, Ideal.exp (x s - r) := by
      rw [← hsum fun s => Ideal.exp (x s - r)]
      exact Finset.sum_congr rfl fun j _ => he j
    have hZr : ∑ s ∈ A, Ideal.exp (x s - r) = ((∑ s ∈ A, Real.exp (y s - r) : ℝ) : EReal) := by
      rw [coe_sum]; exact Finset.sum_congr rfl fun s hs => by rw [hx s hs, ← EReal.coe_sub, Ideal.exp_coe]
    have hZ0 : (∑ s ∈ A, Real.exp (y s - r)) ≠ 0 := (Finset.sum_pos (fun s _ => Real.exp_pos _) ⟨a, ha⟩).ne'
    rw [hZ, ← attend_sub A x v y hx r, attend, ← hsum fun s => Ideal.div (Ideal.exp (x s - r)) (∑ s ∈ A, Ideal.exp (x s - r)) * v s]
    refine Finset.sum_congr rfl fun j _ => ?_
    show Ideal.div _ _ * _ = _
    rw [he]
    split
    · rename_i h; rw [hu j h]
    · rw [hZr, Ideal.div_coe hZ0, zero_mul, zero_mul]

end Cert.Proof.Softmax
-- ==== Proof.KernelHead.lean ====
module

public import proofs.«01_k».proof.Proof.KernelMask
public import proofs.«01_k».proof.Proof.Softmax

@[expose] public section

/-! # One head of the kernel on one block: the value it stores -/

noncomputable section

namespace Cert.Proof.KernelHead

open Cert.KernelIdeal Cert.KernelIdeal.Gen
open Cert.Proof.Spec Cert.Proof.Reals Cert.Proof.KernelScalars
open Idealize.ShloMosaic Idealize.ShloMosaic.TcCoe Idealize.ShloMosaic.Tactic

/-- The kernel's mean of `v`: weights `exp (x + b)`, their sum kept above a tiny number. -/
def mean (x b v : Fin 1024 → EReal) : EReal :=
  (∑ s, Ideal.exp (x s + b s) * v s) * Ideal.div 1 (max (∑ s, Ideal.exp (x s + b s)) (Ideal.ofBits .f32 0x0DA24260#32))

/-- Where the bias is 0 on `A` and `⊥` elsewhere, the mean is the attention over `A`. -/
theorem mean_eq (A : Finset (Fin 1024)) (x b v : Fin 1024 → EReal) (y : Fin 1024 → ℝ) (hx : ∀ s, x s = y s) (hy : ∀ s, -69 ≤ y s)
    (h0 : ∀ s, s ∈ A → b s = 0) (h1 : ∀ s, s ∉ A → b s = ⊥) : mean x b v = attend A x v := by
  classical
  have he : ∀ s, Ideal.exp (x s + b s) = if s ∈ A then Ideal.exp (x s) else 0 := fun s => by
    split
    · rename_i h; rw [h0 s h, add_zero]
    · rename_i h; rw [h1 s h, EReal.add_bot, Ideal.exp_bot]
  unfold mean
  simp only [he, ite_mul, zero_mul]
  rw [← Finset.sum_filter, ← Finset.sum_filter, Finset.filter_mem_eq_inter, Finset.univ_inter]
  exact Softmax.attend_mul A x v y (fun s _ => hx s) (fun s _ => hy s)

abbrev Rows := (⟨4, ![1, 16, 32, 128]⟩ : Shape).Idx → EReal

abbrev Table := (⟨4, ![1, 32, 32, 128]⟩ : Shape).Idx → EReal

/-- Row `p` of a block of the queries. -/
abbrev rowAt (Q : Rows) (p : Fin 512) (y : Fin 128) : EReal := Q (ix4 0 ⟨p.val / 32, by omega⟩ ⟨p.val % 32, by omega⟩ y)

/-- Pixel `s` of a batch's keys or values. -/
abbrev at' (K : Table) (s : Fin 1024) (y : Fin 128) : EReal := K (ix4 0 ⟨s.val / 32, by omega⟩ ⟨s.val % 32, by omega⟩ y)

/-- What head `h` stores at row `p`, channel `d`. -/
def stored (B : FVec Ideal S512x1024 .f32) (Q : Rows) (K V : Table) (h : Fin 4) (p : Fin 512) (d : Fin 32) : EReal :=
  mean (fun s => ∑ x : Fin 32, rowAt Q p ⟨h.val * 32 + x.val, by omega⟩ * Ideal.ofBits .f32 0x3E3504F3#32 * at' K s ⟨h.val * 32 + x.val, by omega⟩)
    (fun s => B (ix2 p s)) (fun s => at' V s ⟨h.val * 32 + d.val, by omega⟩)

variable (B : FVec Ideal S512x1024 .f32) (Q : Rows) (K V : Table) (p : Fin 512) (d : Fin 32)

theorem head_one : k0_pay121 B (k0_pay114 (F := Ideal) Q) (k0_pay115 (F := Ideal) K) (k0_pay116 (F := Ideal) V) (ix3 0 p d) = (stored B Q K V 1 p d : EReal) := by
  pointwise [k0_pay121, k0_pay114, k0_pay115, k0_pay116]
  rfl

theorem head_three : k0_pay2 B (k0_pay114 (F := Ideal) Q) (k0_pay115 (F := Ideal) K) (k0_pay116 (F := Ideal) V) (ix3 0 p d) = (stored B Q K V 3 p d : EReal) := by
  pointwise [k0_pay2, k0_pay114, k0_pay115, k0_pay116]
  rfl

theorem head_two : k0_pay1 (k0_pay122 (k0_pay116 (F := Ideal) V)) (k0_pay123 B (k0_pay114 (F := Ideal) Q) (k0_pay115 (F := Ideal) K))
    (k0_pay124 B (k0_pay114 (F := Ideal) Q) (k0_pay115 (F := Ideal) K)) (ix3 0 p d) = (stored B Q K V 2 p d : EReal) := by
  pointwise [k0_pay1, k0_pay122, k0_pay123, k0_pay124, k0_pay114, k0_pay115, k0_pay116]
  rfl

theorem head_zero (a b c t : FVec Ideal S512x1 .f32) (u v w : FVec Ideal S1x1024 .f32) (hb : k0_pay113 a b c t u v w = B) :
    k0_pay120 (k0_pay117 (F := Ideal) V) (k0_pay118 a b c t u v w Q K) (k0_pay119 a b c t u v w Q K) (ix3 0 p d) = (stored B Q K V 0 p d : EReal) := by
  pointwise [k0_pay120, k0_pay117, k0_pay118, k0_pay119, hb, k0_pay114, k0_pay115, k0_pay116]
  unfold stored mean
  have e : ∀ x : Fin 32, (0 : Fin 4).val * 32 + x.val = x.val := fun x => by show 0 * 32 + x.val = x.val; omega
  simp only [e, rowAt, at']

end Cert.Proof.KernelHead
-- ==== Proof.KernelBlock.lean ====
module

public import proofs.«01_k».proof.Proof.Gen.KernelIdeal.Value
public import Idealize.ShloMosaic.Lib.Pipeline.ValueKit
public import proofs.«01_k».proof.Proof.KernelHead

@[expose] public section

/-! # What one grid point leaves in the output block -/

noncomputable section

namespace Cert.Proof.KernelBlock

open Cert.KernelIdeal Cert.KernelIdeal.Gen Cert.KernelIdeal.Value
open Cert.Proof.Spec Cert.Proof.KernelScalars Cert.Proof.KernelHead
open Idealize.ShloMosaic Idealize.ShloMosaic.TcCoe Idealize.ShloMosaic.Tactic

/-- One entry of a stack of matrices in scalar memory. -/
def cell (X : S2x3x3.Idx → EReal) (off : Fin 3 → ℕ) (inb : ∀ a, off a + S1x1x1.size a ≤ S2x3x3.size a) : EReal :=
  View.ld (Val := Elt Ideal) (e' := .f32) X (Rect.unit (s := S2x3x3) off S1x1x1.size inb) (Shape.Idx.first (s := S1x1x1) (by decide))

/-- One entry of a stack of shifts in scalar memory. -/
def entry (X : S2x3.Idx → EReal) (off : Fin 2 → ℕ) (inb : ∀ a, off a + S1x1.size a ≤ S2x3.size a) : EReal :=
  View.ld (Val := Elt Ideal) (e' := .f32) X (Rect.unit (s := S2x3) off S1x1.size inb) (Shape.Idx.first (s := S1x1) (by decide))

/-- The nine entries a grid point loads of a stack of matrices. -/
def nine (X : S2x3x3.Idx → EReal) (i : grid0.Coords) : Mat :=
  ![![cell X (k0_off1 i) (k0_off1_inb i), cell X (k0_off2 i) (k0_off2_inb i), cell X (k0_off3 i) (k0_off3_inb i)],
    ![cell X (k0_off4 i) (k0_off4_inb i), cell X (k0_off5 i) (k0_off5_inb i), cell X (k0_off6 i) (k0_off6_inb i)],
    ![cell X (k0_off7 i) (k0_off7_inb i), cell X (k0_off8 i) (k0_off8_inb i), cell X (k0_off9 i) (k0_off9_inb i)]]

/-- The three entries it loads of a stack of shifts. -/
def three (X : S2x3.Idx → EReal) (i : grid0.Coords) : Fin 3 → EReal :=
  ![entry X (k0_off10 i) (k0_off10_inb i), entry X (k0_off11 i) (k0_off11_inb i), entry X (k0_off12 i) (k0_off12_inb i)]

theorem word_val (n : Fin 2) : (Scalar.indexCast (BitVec.ofNat 32 n.val)).toNat = n.val := by
  fin_cases n <;> rfl

theorem nine_eq (X : S2x3x3.Idx → EReal) (i : grid0.Coords) : nine X i = Small.mat X (i 0) := by
  have h : ∀ (a b : Fin 3) (off : Fin 3 → ℕ) (inb), off = ![(i 0).val, a.val, b.val] → cell X off inb = X (ix3 (i 0) a b) := by
    intro a b off inb e
    subst e
    refine congrArg X (funext fun k => ?_)
    fin_cases k <;> rfl
  have w := word_val (i 0)
  funext a b
  fin_cases a <;> fin_cases b
  all_goals
    refine h _ _ _ _ ?_
    show ![(Scalar.indexCast (BitVec.ofNat 32 (i 0).val)).toNat, _, _] = _
    rw [w]

theorem three_eq (X : S2x3.Idx → EReal) (i : grid0.Coords) : three X i = Small.vec X (i 0) := by
  have h : ∀ (a : Fin 3) (off : Fin 2 → ℕ) (inb), off = ![(i 0).val, a.val] → entry X off inb = X (ix2 (i 0) a) := by
    intro a off inb e
    subst e
    refine congrArg X (funext fun k => ?_)
    fin_cases k <;> rfl
  have w := word_val (i 0)
  funext a
  fin_cases a
  all_goals
    refine h _ _ _ ?_
    show ![(Scalar.indexCast (BitVec.ofNat 32 (i 0).val)).toNat, _] = _
    rw [w]

variable (m : (ℓ : Loc nD τ sig) → Buf (Elt Ideal) ℓ) (c : Dev nD) (t : Fin cfg0.N)

/-- What the grid point loads in scalars. -/
def loads : Loads := ⟨nine (iblk m c 0 t) (grid0.coords t), nine (iblk m c 1 t) (grid0.coords t), nine (iblk m c 2 t) (grid0.coords t),
  three (iblk m c 3 t) (grid0.coords t)⟩

/-- Four stores, one for each head's 32 channels, leave head by head what was stored. -/
theorem four_heads (g : Fin 4 → Fin 512 → Fin 32 → EReal) (w3 w2 w1 w0 : S1x512x32.Idx → EReal)
    (h3 : ∀ p d, w3 (ix3 0 p d) = g 3 p d) (h2 : ∀ p d, w2 (ix3 0 p d) = g 2 p d) (h1 : ∀ p d, w1 (ix3 0 p d) = g 1 p d)
    (h0 : ∀ p d, w0 (ix3 0 p d) = g 0 p d) (i3 i2 i1 i0) (y0 : Fin 1) (p : Fin 512) (k : Fin 128) :
    View.canon (Val := Elt Ideal) (s := S1x512x128) (e := .f32)
      [⟨Rect.unit ![0, 0, 96] S1x512x32.size i3, w3⟩, ⟨Rect.unit ![0, 0, 64] S1x512x32.size i2, w2⟩,
        ⟨Rect.unit ![0, 0, 32] S1x512x32.size i1, w1⟩, ⟨Rect.unit ![0, 0, 0] S1x512x32.size i0, w0⟩] (ix3 y0 p k)
      = g ⟨k.val / 32, by omega⟩ p ⟨k.val % 32, by omega⟩ := by
  have hg : ∀ (h : Fin 4) (d : Fin 32) (k' : Fin 128), k'.val = h.val * 32 + d.val → g ⟨k'.val / 32, by omega⟩ = g h
      ∧ (⟨k'.val % 32, by omega⟩ : Fin 32) = d :=
    fun h d k' e => ⟨congrArg g (Fin.ext (by show k'.val / 32 = _; omega)), Fin.ext (by show k'.val % 32 = _; omega)⟩
  refine View.canon_apply_of_pieces (Val := Elt Ideal) (e := .f32)
    (fun y => g ⟨(y 2).val / 32, Nat.div_lt_of_lt_mul (show (y 2).val < 32 * 4 from (y 2).isLt)⟩ (y 1) ⟨(y 2).val % 32, Nat.mod_lt _ (by decide)⟩) _ ?_ (ix3 y0 p k) ?_
  · have piece : ∀ (h : Fin 4) (w : S1x512x32.Idx → EReal) (hw : ∀ p d, w (ix3 0 p d) = g h p d) (off : Fin 3 → ℕ) (hoff : off = ![0, 0, h.val * 32])
        (inb) (x : S1x512x32.Idx), w x = (fun y : S1x512x128.Idx => g ⟨(y 2).val / 32, Nat.div_lt_of_lt_mul (show (y 2).val < 32 * 4 from (y 2).isLt)⟩ (y 1) ⟨(y 2).val % 32, Nat.mod_lt _ (by decide)⟩)
          ((Rect.unit (s := S1x512x128) off S1x512x32.size inb).emb x) := by
      intro h w hw off hoff inb x
      subst hoff
      idx_vars x
      obtain rfl : x0 = 0 := Subsingleton.elim _ _
      rw [hw]
      set y := (Rect.unit (s := S1x512x128) ![0, 0, h.val * 32] S1x512x32.size inb).emb (ix3 0 x1 x2) with hy
      have e2 : (y 2 : Fin 128).val = h.val * 32 + x2.val := by
        rw [hy, Rect.emb_apply]; show h.val * 32 + 1 * x2.val = _; omega
      have e1 : (y 1 : Fin 512) = x1 := by
        rw [hy]; exact Fin.ext (by rw [Rect.emb_apply]; show 0 + 1 * x1.val = x1.val; omega)
      obtain ⟨a, b⟩ := hg h x2 (y 2) e2
      show _ = g _ (y 1) _
      rw [a, b, e1]
    exact List.forall_mem_cons.2 ⟨piece 3 w3 h3 _ rfl i3, List.forall_mem_cons.2 ⟨piece 2 w2 h2 _ rfl i2,
      List.forall_mem_cons.2 ⟨piece 1 w1 h1 _ rfl i1, List.forall_mem_cons.2 ⟨piece 0 w0 h0 _ rfl i0, fun p hp => absurd hp List.not_mem_nil⟩⟩⟩⟩
  · have mem : ∀ (o : ℕ) (inb), o ≤ k.val → k.val < o + 32 → ix3 y0 p k ∈ (Rect.unit (s := S1x512x128) ![0, 0, o] S1x512x32.size inb).set := by
      intro o inb ho ho'
      refine Rect.mem_set_unit.2 fun a => ?_
      fin_cases a
      · exact ⟨Nat.zero_le _, by show y0.val < 0 + 1; omega⟩
      · exact ⟨Nat.zero_le _, by show p.val < 0 + 512; omega⟩
      · exact ⟨ho, ho'⟩
    by_cases c3 : 96 ≤ k.val
    · exact ⟨_, List.mem_cons_self, mem 96 i3 c3 (by omega)⟩
    · by_cases c2 : 64 ≤ k.val
      · exact ⟨_, List.mem_cons_of_mem _ List.mem_cons_self, mem 64 i2 c2 (by omega)⟩
      · by_cases c1 : 32 ≤ k.val
        · exact ⟨_, List.mem_cons_of_mem _ (List.mem_cons_of_mem _ List.mem_cons_self), mem 32 i1 c1 (by omega)⟩
        · exact ⟨_, List.mem_cons_of_mem _ (List.mem_cons_of_mem _ (List.mem_cons_of_mem _ List.mem_cons_self)), mem 0 i0 (by omega) (by omega)⟩

/-- The mask's bias at the grid point. -/
abbrev biasAt : FVec Ideal S512x1024 .f32 := KernelMask.bias (loads m c t) (BitVec.ofNat 32 (grid0.coords t 1).val)

end Cert.Proof.KernelBlock
-- ==== Proof.KernelOuts.lean ====
module

public import proofs.«01_k».proof.Proof.KernelBlock
@[expose] public section

/-! # The block's entries in terms of its loaded scalars -/

noncomputable section

namespace Cert.Proof.KernelOuts
open Cert.KernelIdeal Cert.KernelIdeal.Gen Cert.KernelIdeal.Value
open Cert.Proof.Spec Cert.Proof.KernelScalars Cert.Proof.KernelHead Cert.Proof.KernelBlock
open Idealize.ShloMosaic Idealize.ShloMosaic.TcCoe Idealize.ShloMosaic.Tactic
variable (m : (ℓ : Loc nD τ sig) → Buf (Elt Ideal) ℓ) (c : Dev nD) (t : Fin cfg0.N)

theorem ld_a00 (h) : View.ld (Val := Elt Ideal) (e' := .f32) (iblk m c 0 t) (Rect.unit (s := S2x3x3) (k0_off1 (grid0.coords t)) ![1, 1, 1] (k0_off1_inb (grid0.coords t)))
    (Shape.Idx.first (s := (Rect.unit (s := S2x3x3) (k0_off1 (grid0.coords t)) ![1, 1, 1] (k0_off1_inb (grid0.coords t))).toLoadRect.shape) h) = (loads m c t).a 0 0 := rfl
theorem ld_a01 (h) : View.ld (Val := Elt Ideal) (e' := .f32) (iblk m c 0 t) (Rect.unit (s := S2x3x3) (k0_off2 (grid0.coords t)) ![1, 1, 1] (k0_off2_inb (grid0.coords t)))
    (Shape.Idx.first (s := (Rect.unit (s := S2x3x3) (k0_off2 (grid0.coords t)) ![1, 1, 1] (k0_off2_inb (grid0.coords t))).toLoadRect.shape) h) = (loads m c t).a 0 1 := rfl
theorem ld_a02 (h) : View.ld (Val := Elt Ideal) (e' := .f32) (iblk m c 0 t) (Rect.unit (s := S2x3x3) (k0_off3 (grid0.coords t)) ![1, 1, 1] (k0_off3_inb (grid0.coords t)))
    (Shape.Idx.first (s := (Rect.unit (s := S2x3x3) (k0_off3 (grid0.coords t)) ![1, 1, 1] (k0_off3_inb (grid0.coords t))).toLoadRect.shape) h) = (loads m c t).a 0 2 := rfl
theorem ld_a10 (h) : View.ld (Val := Elt Ideal) (e' := .f32) (iblk m c 0 t) (Rect.unit (s := S2x3x3) (k0_off4 (grid0.coords t)) ![1, 1, 1] (k0_off4_inb (grid0.coords t)))
    (Shape.Idx.first (s := (Rect.unit (s := S2x3x3) (k0_off4 (grid0.coords t)) ![1, 1, 1] (k0_off4_inb (grid0.coords t))).toLoadRect.shape) h) = (loads m c t).a 1 0 := rfl
theorem ld_a11 (h) : View.ld (Val := Elt Ideal) (e' := .f32) (iblk m c 0 t) (Rect.unit (s := S2x3x3) (k0_off5 (grid0.coords t)) ![1, 1, 1] (k0_off5_inb (grid0.coords t)))
    (Shape.Idx.first (s := (Rect.unit (s := S2x3x3) (k0_off5 (grid0.coords t)) ![1, 1, 1] (k0_off5_inb (grid0.coords t))).toLoadRect.shape) h) = (loads m c t).a 1 1 := rfl
theorem ld_a12 (h) : View.ld (Val := Elt Ideal) (e' := .f32) (iblk m c 0 t) (Rect.unit (s := S2x3x3) (k0_off6 (grid0.coords t)) ![1, 1, 1] (k0_off6_inb (grid0.coords t)))
    (Shape.Idx.first (s := (Rect.unit (s := S2x3x3) (k0_off6 (grid0.coords t)) ![1, 1, 1] (k0_off6_inb (grid0.coords t))).toLoadRect.shape) h) = (loads m c t).a 1 2 := rfl
theorem ld_a20 (h) : View.ld (Val := Elt Ideal) (e' := .f32) (iblk m c 0 t) (Rect.unit (s := S2x3x3) (k0_off7 (grid0.coords t)) ![1, 1, 1] (k0_off7_inb (grid0.coords t)))
    (Shape.Idx.first (s := (Rect.unit (s := S2x3x3) (k0_off7 (grid0.coords t)) ![1, 1, 1] (k0_off7_inb (grid0.coords t))).toLoadRect.shape) h) = (loads m c t).a 2 0 := rfl
theorem ld_a21 (h) : View.ld (Val := Elt Ideal) (e' := .f32) (iblk m c 0 t) (Rect.unit (s := S2x3x3) (k0_off8 (grid0.coords t)) ![1, 1, 1] (k0_off8_inb (grid0.coords t)))
    (Shape.Idx.first (s := (Rect.unit (s := S2x3x3) (k0_off8 (grid0.coords t)) ![1, 1, 1] (k0_off8_inb (grid0.coords t))).toLoadRect.shape) h) = (loads m c t).a 2 1 := rfl
theorem ld_a22 (h) : View.ld (Val := Elt Ideal) (e' := .f32) (iblk m c 0 t) (Rect.unit (s := S2x3x3) (k0_off9 (grid0.coords t)) ![1, 1, 1] (k0_off9_inb (grid0.coords t)))
    (Shape.Idx.first (s := (Rect.unit (s := S2x3x3) (k0_off9 (grid0.coords t)) ![1, 1, 1] (k0_off9_inb (grid0.coords t))).toLoadRect.shape) h) = (loads m c t).a 2 2 := rfl
theorem ld_b00 (h) : View.ld (Val := Elt Ideal) (e' := .f32) (iblk m c 1 t) (Rect.unit (s := S2x3x3) (k0_off1 (grid0.coords t)) ![1, 1, 1] (k0_off1_inb (grid0.coords t)))
    (Shape.Idx.first (s := (Rect.unit (s := S2x3x3) (k0_off1 (grid0.coords t)) ![1, 1, 1] (k0_off1_inb (grid0.coords t))).toLoadRect.shape) h) = (loads m c t).b 0 0 := rfl
theorem ld_b01 (h) : View.ld (Val := Elt Ideal) (e' := .f32) (iblk m c 1 t) (Rect.unit (s := S2x3x3) (k0_off2 (grid0.coords t)) ![1, 1, 1] (k0_off2_inb (grid0.coords t)))
    (Shape.Idx.first (s := (Rect.unit (s := S2x3x3) (k0_off2 (grid0.coords t)) ![1, 1, 1] (k0_off2_inb (grid0.coords t))).toLoadRect.shape) h) = (loads m c t).b 0 1 := rfl
theorem ld_b02 (h) : View.ld (Val := Elt Ideal) (e' := .f32) (iblk m c 1 t) (Rect.unit (s := S2x3x3) (k0_off3 (grid0.coords t)) ![1, 1, 1] (k0_off3_inb (grid0.coords t)))
    (Shape.Idx.first (s := (Rect.unit (s := S2x3x3) (k0_off3 (grid0.coords t)) ![1, 1, 1] (k0_off3_inb (grid0.coords t))).toLoadRect.shape) h) = (loads m c t).b 0 2 := rfl
theorem ld_b10 (h) : View.ld (Val := Elt Ideal) (e' := .f32) (iblk m c 1 t) (Rect.unit (s := S2x3x3) (k0_off4 (grid0.coords t)) ![1, 1, 1] (k0_off4_inb (grid0.coords t)))
    (Shape.Idx.first (s := (Rect.unit (s := S2x3x3) (k0_off4 (grid0.coords t)) ![1, 1, 1] (k0_off4_inb (grid0.coords t))).toLoadRect.shape) h) = (loads m c t).b 1 0 := rfl
theorem ld_b11 (h) : View.ld (Val := Elt Ideal) (e' := .f32) (iblk m c 1 t) (Rect.unit (s := S2x3x3) (k0_off5 (grid0.coords t)) ![1, 1, 1] (k0_off5_inb (grid0.coords t)))
    (Shape.Idx.first (s := (Rect.unit (s := S2x3x3) (k0_off5 (grid0.coords t)) ![1, 1, 1] (k0_off5_inb (grid0.coords t))).toLoadRect.shape) h) = (loads m c t).b 1 1 := rfl
theorem ld_b12 (h) : View.ld (Val := Elt Ideal) (e' := .f32) (iblk m c 1 t) (Rect.unit (s := S2x3x3) (k0_off6 (grid0.coords t)) ![1, 1, 1] (k0_off6_inb (grid0.coords t)))
    (Shape.Idx.first (s := (Rect.unit (s := S2x3x3) (k0_off6 (grid0.coords t)) ![1, 1, 1] (k0_off6_inb (grid0.coords t))).toLoadRect.shape) h) = (loads m c t).b 1 2 := rfl
theorem ld_b20 (h) : View.ld (Val := Elt Ideal) (e' := .f32) (iblk m c 1 t) (Rect.unit (s := S2x3x3) (k0_off7 (grid0.coords t)) ![1, 1, 1] (k0_off7_inb (grid0.coords t)))
    (Shape.Idx.first (s := (Rect.unit (s := S2x3x3) (k0_off7 (grid0.coords t)) ![1, 1, 1] (k0_off7_inb (grid0.coords t))).toLoadRect.shape) h) = (loads m c t).b 2 0 := rfl
theorem ld_b21 (h) : View.ld (Val := Elt Ideal) (e' := .f32) (iblk m c 1 t) (Rect.unit (s := S2x3x3) (k0_off8 (grid0.coords t)) ![1, 1, 1] (k0_off8_inb (grid0.coords t)))
    (Shape.Idx.first (s := (Rect.unit (s := S2x3x3) (k0_off8 (grid0.coords t)) ![1, 1, 1] (k0_off8_inb (grid0.coords t))).toLoadRect.shape) h) = (loads m c t).b 2 1 := rfl
theorem ld_b22 (h) : View.ld (Val := Elt Ideal) (e' := .f32) (iblk m c 1 t) (Rect.unit (s := S2x3x3) (k0_off9 (grid0.coords t)) ![1, 1, 1] (k0_off9_inb (grid0.coords t)))
    (Shape.Idx.first (s := (Rect.unit (s := S2x3x3) (k0_off9 (grid0.coords t)) ![1, 1, 1] (k0_off9_inb (grid0.coords t))).toLoadRect.shape) h) = (loads m c t).b 2 2 := rfl
theorem ld_r00 (h) : View.ld (Val := Elt Ideal) (e' := .f32) (iblk m c 2 t) (Rect.unit (s := S2x3x3) (k0_off1 (grid0.coords t)) ![1, 1, 1] (k0_off1_inb (grid0.coords t)))
    (Shape.Idx.first (s := (Rect.unit (s := S2x3x3) (k0_off1 (grid0.coords t)) ![1, 1, 1] (k0_off1_inb (grid0.coords t))).toLoadRect.shape) h) = (loads m c t).r 0 0 := rfl
theorem ld_r01 (h) : View.ld (Val := Elt Ideal) (e' := .f32) (iblk m c 2 t) (Rect.unit (s := S2x3x3) (k0_off2 (grid0.coords t)) ![1, 1, 1] (k0_off2_inb (grid0.coords t)))
    (Shape.Idx.first (s := (Rect.unit (s := S2x3x3) (k0_off2 (grid0.coords t)) ![1, 1, 1] (k0_off2_inb (grid0.coords t))).toLoadRect.shape) h) = (loads m c t).r 0 1 := rfl
theorem ld_r02 (h) : View.ld (Val := Elt Ideal) (e' := .f32) (iblk m c 2 t) (Rect.unit (s := S2x3x3) (k0_off3 (grid0.coords t)) ![1, 1, 1] (k0_off3_inb (grid0.coords t)))
    (Shape.Idx.first (s := (Rect.unit (s := S2x3x3) (k0_off3 (grid0.coords t)) ![1, 1, 1] (k0_off3_inb (grid0.coords t))).toLoadRect.shape) h) = (loads m c t).r 0 2 := rfl
theorem ld_r10 (h) : View.ld (Val := Elt Ideal) (e' := .f32) (iblk m c 2 t) (Rect.unit (s := S2x3x3) (k0_off4 (grid0.coords t)) ![1, 1, 1] (k0_off4_inb (grid0.coords t)))
    (Shape.Idx.first (s := (Rect.unit (s := S2x3x3) (k0_off4 (grid0.coords t)) ![1, 1, 1] (k0_off4_inb (grid0.coords t))).toLoadRect.shape) h) = (loads m c t).r 1 0 := rfl
theorem ld_r11 (h) : View.ld (Val := Elt Ideal) (e' := .f32) (iblk m c 2 t) (Rect.unit (s := S2x3x3) (k0_off5 (grid0.coords t)) ![1, 1, 1] (k0_off5_inb (grid0.coords t)))
    (Shape.Idx.first (s := (Rect.unit (s := S2x3x3) (k0_off5 (grid0.coords t)) ![1, 1, 1] (k0_off5_inb (grid0.coords t))).toLoadRect.shape) h) = (loads m c t).r 1 1 := rfl
theorem ld_r12 (h) : View.ld (Val := Elt Ideal) (e' := .f32) (iblk m c 2 t) (Rect.unit (s := S2x3x3) (k0_off6 (grid0.coords t)) ![1, 1, 1] (k0_off6_inb (grid0.coords t)))
    (Shape.Idx.first (s := (Rect.unit (s := S2x3x3) (k0_off6 (grid0.coords t)) ![1, 1, 1] (k0_off6_inb (grid0.coords t))).toLoadRect.shape) h) = (loads m c t).r 1 2 := rfl
theorem ld_r20 (h) : View.ld (Val := Elt Ideal) (e' := .f32) (iblk m c 2 t) (Rect.unit (s := S2x3x3) (k0_off7 (grid0.coords t)) ![1, 1, 1] (k0_off7_inb (grid0.coords t)))
    (Shape.Idx.first (s := (Rect.unit (s := S2x3x3) (k0_off7 (grid0.coords t)) ![1, 1, 1] (k0_off7_inb (grid0.coords t))).toLoadRect.shape) h) = (loads m c t).r 2 0 := rfl
theorem ld_r21 (h) : View.ld (Val := Elt Ideal) (e' := .f32) (iblk m c 2 t) (Rect.unit (s := S2x3x3) (k0_off8 (grid0.coords t)) ![1, 1, 1] (k0_off8_inb (grid0.coords t)))
    (Shape.Idx.first (s := (Rect.unit (s := S2x3x3) (k0_off8 (grid0.coords t)) ![1, 1, 1] (k0_off8_inb (grid0.coords t))).toLoadRect.shape) h) = (loads m c t).r 2 1 := rfl
theorem ld_r22 (h) : View.ld (Val := Elt Ideal) (e' := .f32) (iblk m c 2 t) (Rect.unit (s := S2x3x3) (k0_off9 (grid0.coords t)) ![1, 1, 1] (k0_off9_inb (grid0.coords t)))
    (Shape.Idx.first (s := (Rect.unit (s := S2x3x3) (k0_off9 (grid0.coords t)) ![1, 1, 1] (k0_off9_inb (grid0.coords t))).toLoadRect.shape) h) = (loads m c t).r 2 2 := rfl
theorem ld_t0 (h) : View.ld (Val := Elt Ideal) (e' := .f32) (iblk m c 3 t) (Rect.unit (s := S2x3) (k0_off10 (grid0.coords t)) ![1, 1] (k0_off10_inb (grid0.coords t)))
    (Shape.Idx.first (s := (Rect.unit (s := S2x3) (k0_off10 (grid0.coords t)) ![1, 1] (k0_off10_inb (grid0.coords t))).toLoadRect.shape) h) = (loads m c t).t 0 := rfl
theorem ld_t1 (h) : View.ld (Val := Elt Ideal) (e' := .f32) (iblk m c 3 t) (Rect.unit (s := S2x3) (k0_off11 (grid0.coords t)) ![1, 1] (k0_off11_inb (grid0.coords t)))
    (Shape.Idx.first (s := (Rect.unit (s := S2x3) (k0_off11 (grid0.coords t)) ![1, 1] (k0_off11_inb (grid0.coords t))).toLoadRect.shape) h) = (loads m c t).t 1 := rfl
theorem ld_t2 (h) : View.ld (Val := Elt Ideal) (e' := .f32) (iblk m c 3 t) (Rect.unit (s := S2x3) (k0_off12 (grid0.coords t)) ![1, 1] (k0_off12_inb (grid0.coords t)))
    (Shape.Idx.first (s := (Rect.unit (s := S2x3) (k0_off12 (grid0.coords t)) ![1, 1] (k0_off12_inb (grid0.coords t))).toLoadRect.shape) h) = (loads m c t).t 2 := rfl

/-- Each block entry is the weighted mean of its head. -/
theorem outs (y0 : Fin 1) (p : Fin 512) (k : Fin 128) : outsAt0 (F := Ideal) m c t (ix3 y0 p k)
    = (stored (biasAt m c t) (iblk m c 4 t) (iblk m c 5 t) (iblk m c 6 t) ⟨k.val / 32, by omega⟩ p ⟨k.val % 32, by omega⟩ : EReal) := by
  unfold outsAt0
  frame_out
  refine four_heads (stored (biasAt m c t) (iblk m c 4 t) (iblk m c 5 t) (iblk m c 6 t)) _ _ _ _ ?_ ?_ ?_ ?_ _ _ _ _ y0 p k
  all_goals
    intro p d
    simp only [ld_a00, ld_a01, ld_a02, ld_a10, ld_a11, ld_a12, ld_a20, ld_a21, ld_a22, ld_b00, ld_b01, ld_b02, ld_b10, ld_b11, ld_b12, ld_b20, ld_b21, ld_b22, ld_r00, ld_r01, ld_r02, ld_r10, ld_r11, ld_r12, ld_r20, ld_r21, ld_r22, ld_t0, ld_t1, ld_t2]
    simp only [← Loads.v60.eq_1, ← Loads.v71.eq_1, ← Loads.v73.eq_1, ← Loads.v75.eq_1, ← Loads.v77.eq_1, ← Loads.v79.eq_1, ← Loads.v81.eq_1, ← Loads.v83.eq_1, ← Loads.v85.eq_1, ← Loads.v87.eq_1, ← Loads.v89.eq_1, ← Loads.v91.eq_1, ← Loads.v93.eq_1, ← Loads.v95.eq_1, ← Loads.v97.eq_1, ← Loads.v99.eq_1, ← Loads.v104.eq_1, ← Loads.v109.eq_1, ← Loads.v114.eq_1, ← Loads.v117.eq_1, ← Loads.v119.eq_1, ← Loads.v124.eq_1, ← Loads.v129.eq_1, ← Loads.v134.eq_1, ← Loads.v139.eq_1, ← Loads.v144.eq_1, ← Loads.v154.eq_1, ← Loads.v160.eq_1, ← Loads.v161.eq_1, ← Loads.v166.eq_1, ← Loads.v170.eq_1, ← Loads.v171.eq_1, ← Loads.v174.eq_1, ← Loads.v192.eq_1, ← Loads.v194.eq_1, ← Loads.v196.eq_1, ← Loads.v198.eq_1, ← Loads.v200.eq_1, ← Loads.v202.eq_1, ← Loads.v204.eq_1, ← Loads.v206.eq_1, ← Loads.v208.eq_1, ← Loads.v210.eq_1, ← Loads.v212.eq_1, ← Loads.v214.eq_1, ← Loads.v216.eq_1, ← Loads.v218.eq_1, ← Loads.v220.eq_1, ← Loads.v222.eq_1, ← Loads.v224.eq_1, ← Loads.v226.eq_1, ← Loads.v231.eq_1, ← Loads.v232.eq_1, ← Loads.v236.eq_1, ← Loads.v241.eq_1, ← Loads.v246.eq_1, ← Loads.v251.eq_1, ← Loads.v256.eq_1, ← Loads.v261.eq_1, ← Loads.v266.eq_1, ← Loads.v271.eq_1, ← Loads.v278.eq_1, ← Loads.v281.eq_1, ← Loads.v287.eq_1, ← Loads.v288.eq_1, ← Loads.v289.eq_1, ← Loads.v290.eq_1, ← Loads.v319.eq_1, ← Loads.v321.eq_1, ← Loads.v323.eq_1, ← Loads.v325.eq_1, ← Loads.v327.eq_1, ← Loads.v329.eq_1, ← Loads.v331.eq_1, ← Loads.v333.eq_1, ← Loads.v335.eq_1, ← Loads.v337.eq_1, ← Loads.v339.eq_1, ← Loads.v341.eq_1, ← Loads.v343.eq_1, ← Loads.v345.eq_1, ← Loads.v347.eq_1, ← Loads.v383.eq_1, ← Loads.v388.eq_1, ← Loads.v393.eq_1, ← Loads.v398.eq_1, ← Loads.v400.eq_1, ← Loads.v402.eq_1, ← Loads.v404.eq_1, ← Loads.v406.eq_1, ← Loads.v407.eq_1]
    try simp only [← KernelMask.bias.eq_1]
  · exact head_three (biasAt m c t) _ _ _ p d
  · exact head_two (biasAt m c t) _ _ _ p d
  · exact head_one (biasAt m c t) _ _ _ p d
  · exact head_zero (biasAt m c t) _ _ _ p d _ _ _ _ _ _ _ rfl
end Cert.Proof.KernelOuts
-- ==== Proof.KernelWindows.lean ====
module

public import proofs.«01_k».proof.Proof.KernelOuts

@[expose] public section

/-! # The blocks of the arguments -/

set_option maxRecDepth 16384

noncomputable section

namespace Cert.Proof.KernelWindows

open Cert.KernelIdeal Cert.KernelIdeal.Gen Cert.KernelIdeal.Value
open Cert.Proof.Spec Cert.Proof.KernelScalars Cert.Proof.KernelHead Cert.Proof.KernelBlock Cert.Proof.KernelMask
open Idealize.ShloMosaic Idealize.ShloMosaic.TcCoe Idealize.ShloMosaic.Tactic

/-- Where each window stands at a grid point. -/
theorem places : ∀ t : Fin cfg0.N,
    win0_0.index t = ![0, 0, 0] ∧ win0_1.index t = ![0, 0, 0] ∧ win0_2.index t = ![0, 0, 0] ∧ win0_3.index t = ![0, 0]
    ∧ win0_4.index t = ![(grid0.coords t 0).val, (grid0.coords t 1).val, 0, 0]
    ∧ win0_5.index t = ![(grid0.coords t 0).val, 0, 0, 0] ∧ win0_6.index t = ![(grid0.coords t 0).val, 0, 0, 0]
    ∧ win0_7.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

theorem first_read (j : S2x3x3.Idx) : (iblk m c 0 t j : EReal) = m ((c : Thread nD τ).loc main_arg3) j := by
  idx_vars j
  blk_ext [iblk, V, places t]

theorem second_read (j : S2x3x3.Idx) : (iblk m c 1 t j : EReal) = m ((c : Thread nD τ).loc main_arg4) j := by
  idx_vars j
  blk_ext [iblk, V, places t]

theorem turn_read (j : S2x3x3.Idx) : (iblk m c 2 t j : EReal) = m ((c : Thread nD τ).loc main_arg5) j := by
  idx_vars j
  blk_ext [iblk, V, places t]

theorem shift_read (j : S2x3.Idx) : (iblk m c 3 t j : EReal) = m ((c : Thread nD τ).loc main_arg6) j := by
  idx_vars j
  blk_ext [iblk, V, places t]

/-- A row of the queries' block is a pixel of the grid point's batch. -/
theorem query_read (p : Fin 512) (y : Fin 128) : (rowAt (iblk m c 4 t) p y : EReal)
    = Small.entry (m ((c : Thread nD τ).loc main_arg0)) (grid0.coords t 0) (pixel (grid0.coords t 1) p) y := by
  unfold rowAt Small.entry
  blk_ext [iblk, V, places t]

theorem key_read (s : Fin 1024) (y : Fin 128) : (at' (iblk m c 5 t) s y : EReal)
    = Small.entry (m ((c : Thread nD τ).loc main_arg1)) (grid0.coords t 0) s y := by
  unfold at' Small.entry
  blk_ext [iblk, V, places t]

theorem value_read (s : Fin 1024) (y : Fin 128) : (at' (iblk m c 6 t) s y : EReal)
    = Small.entry (m ((c : Thread nD τ).loc main_arg2)) (grid0.coords t 0) s y := by
  unfold at' Small.entry
  blk_ext [iblk, V, places t]

end Cert.Proof.KernelWindows
-- ==== Proof.KernelValue.lean ====
module

public import proofs.«01_k».proof.Proof.KernelWindows

@[expose] public section

/-! # The kernel's result -/

set_option maxRecDepth 16384

noncomputable section

namespace Cert.Proof.KernelValue

open Cert.KernelIdeal Cert.KernelIdeal.Gen Cert.KernelIdeal.Value
open Cert.Proof.Spec Cert.Proof.Reals Cert.Proof.KernelScalars Cert.Proof.KernelHead Cert.Proof.KernelBlock Cert.Proof.KernelMask
open Cert.Proof.KernelWindows
open Idealize.ShloMosaic Idealize.ShloMosaic.TcCoe Idealize.ShloMosaic.Tactic Idealize.SL.Sem

variable (m : (ℓ : Loc nD τ sig) → Buf (Elt Ideal) ℓ) (c : Dev nD) (t : Fin cfg0.N)

/-- The fundamental matrix of pair `n`, of the kernel's arguments. -/
def F (n : Fin 2) : Mat :=
  fund (Small.mat (m ((c : Thread nD τ).loc main_arg3)) n) (Small.mat (m ((c : Thread nD τ).loc main_arg4)) n)
    (Small.mat (m ((c : Thread nD τ).loc main_arg5)) n) (Small.vec (m ((c : Thread nD τ).loc main_arg6)) n)

/-- The pixels that pixel `l` of pair `n` attends to. -/
def allowed (n : Fin 2) (l : Fin 1024) : Finset (Fin 1024) :=
  near (line (F m c n) 0 l) (line (F m c n) 1 l) (line (F m c n) 2 l)

/-- What the kernel's arguments are taken to be. -/
structure Tame : Prop where
  shift : ∀ n, ∃ x : ℝ, Small.vec (m ((c : Thread nD τ).loc main_arg6)) n 0 = x
  finite : ∀ n l j, ∃ x : ℝ, line (F m c n) j l = x
  origin : ∀ n l, line (F m c n) 0 l ≠ 0
    ∨ (2 : EReal) * max (line (F m c n) 1 l) (-(line (F m c n) 1 l)) ≤ max (line (F m c n) 2 l) (-(line (F m c n) 2 l))
  scores : ∀ n h l s, ∃ r : ℝ, Small.score (m ((c : Thread nD τ).loc main_arg0)) (m ((c : Thread nD τ).loc main_arg1)) n h l s = r ∧ -390 ≤ r

variable (h : Tame m c)
include h

/-- The matrix the scalar unit computes is the fundamental matrix. -/
theorem product_F : product (loads m c t) = F m c (grid0.coords t 0) := by
  have e0 : (iblk m c 0 t : S2x3x3.Idx → EReal) = m ((c : Thread nD τ).loc main_arg3) := funext (first_read m c t)
  have e1 : (iblk m c 1 t : S2x3x3.Idx → EReal) = m ((c : Thread nD τ).loc main_arg4) := funext (second_read m c t)
  have e2 : (iblk m c 2 t : S2x3x3.Idx → EReal) = m ((c : Thread nD τ).loc main_arg5) := funext (turn_read m c t)
  have e3 : (iblk m c 3 t : S2x3.Idx → EReal) = m ((c : Thread nD τ).loc main_arg6) := funext (shift_read m c t)
  have ea : (loads m c t).a = Small.mat (m ((c : Thread nD τ).loc main_arg3)) (grid0.coords t 0) := (nine_eq _ _).trans (congrArg (Small.mat · _) e0)
  have eb : (loads m c t).b = Small.mat (m ((c : Thread nD τ).loc main_arg4)) (grid0.coords t 0) := (nine_eq _ _).trans (congrArg (Small.mat · _) e1)
  have er : (loads m c t).r = Small.mat (m ((c : Thread nD τ).loc main_arg5)) (grid0.coords t 0) := (nine_eq _ _).trans (congrArg (Small.mat · _) e2)
  have et : (loads m c t).t = Small.vec (m ((c : Thread nD τ).loc main_arg6)) (grid0.coords t 0) := (three_eq _ _).trans (congrArg (Small.vec · _) e3)
  rw [product_eq (loads m c t) (by rw [et]; exact h.shift _) (by
    rw [ea, eb, er, et]; exact real_of_lines (F m c (grid0.coords t 0)) (h.finite _)), ea, eb, er, et]
  rfl

/-- One entry of the block a grid point leaves. -/
theorem block (y0 : Fin 1) (p : Fin 512) (k : Fin 128) : (outsAt0 (F := Ideal) m c t (ix3 y0 p k) : EReal)
    = Small.answer (allowed m c (grid0.coords t 0) (pixel (grid0.coords t 1) p)) (m ((c : Thread nD τ).loc main_arg0))
        (m ((c : Thread nD τ).loc main_arg1)) (m ((c : Thread nD τ).loc main_arg2)) (grid0.coords t 0) (pixel (grid0.coords t 1) p) k := by
  rw [KernelOuts.outs]
  unfold stored Small.answer
  have hk : (⟨(⟨k.val / 32, by omega⟩ : Fin 4).val * 32 + (⟨k.val % 32, by omega⟩ : Fin 32).val, by
      show k.val / 32 * 32 + k.val % 32 < 128; omega⟩ : Fin 128) = k := Fin.ext (by show k.val / 32 * 32 + k.val % 32 = k.val; omega)
  have hv : (fun s => at' (iblk m c 6 t) s ⟨(⟨k.val / 32, by omega⟩ : Fin 4).val * 32 + (⟨k.val % 32, by omega⟩ : Fin 32).val, by
      show k.val / 32 * 32 + k.val % 32 < 128; omega⟩ : Fin 1024 → EReal)
      = fun s => Small.entry (m ((c : Thread nD τ).loc main_arg2)) (grid0.coords t 0) s k := by
    rw [hk]; exact funext fun s => value_read m c t s k
  have hx : ∀ s : Fin 1024, (∑ x : Fin 32, rowAt (iblk m c 4 t) p ⟨(⟨k.val / 32, by omega⟩ : Fin 4).val * 32 + x.val, by
        show k.val / 32 * 32 + x.val < 128; omega⟩ * Ideal.ofBits .f32 0x3E3504F3#32
        * at' (iblk m c 5 t) s ⟨(⟨k.val / 32, by omega⟩ : Fin 4).val * 32 + x.val, by show k.val / 32 * 32 + x.val < 128; omega⟩ : EReal)
      = Ideal.ofBits .f32 0x3E3504F3#32 * Small.score (m ((c : Thread nD τ).loc main_arg0)) (m ((c : Thread nD τ).loc main_arg1))
        (grid0.coords t 0) ⟨k.val / 32, by omega⟩ (pixel (grid0.coords t 1) p) s := fun s => by
    rw [mul_comm (Ideal.ofBits .f32 0x3E3504F3#32), temp_bits]
    unfold Small.score
    rw [sum_mul_real _ _ (by norm_num)]
    refine Finset.sum_congr rfl fun x _ => ?_
    rw [mul_right_comm, query_read, key_read]
  choose r hr hb using fun s => h.scores (grid0.coords t 0) ⟨k.val / 32, by omega⟩ (pixel (grid0.coords t 1) p) s
  classical
  have hbias := fun s => bias_apply (loads m c t) (grid0.coords t 1) p s (F m c (grid0.coords t 0)) (product_F m c t h)
    (fun j => h.finite _ _ j) (h.origin _ _)
  refine (mean_eq (allowed m c (grid0.coords t 0) (pixel (grid0.coords t 1) p)) _ _ _ (fun s => 11863283 / 67108864 * r s)
    (fun s => ?_) (fun s => ?_) (fun s hs => ?_) (fun s hs => ?_)).trans ?_
  · rw [hx, hr, temp_bits, ← EReal.coe_mul]
  · have := hb s
    linarith
  · exact (hbias s).trans (if_pos hs)
  · exact (hbias s).trans (if_neg hs)
  · rw [hv]; exact congrArg (attend _ · _) (funext hx)

/-- The whole result. -/
theorem whole : ((dats m 0 c).arrAt 7 cfg0.N : S2x1024x128.Idx → EReal) = fun i =>
    Small.answer (allowed m c (i 0) (i 1)) (m ((c : Thread nD τ).loc main_arg0)) (m ((c : Thread nD τ).loc main_arg1))
      (m ((c : Thread nD τ).loc main_arg2)) (i 0) (i 1) (i 2) := by
  refine (dats m 0 c).arrAt_eq_of_covers 7 _ (by decide +kernel) fun t hf y => ?_
  blk_simp
  rw [after0_7]
  obtain ⟨y0, p, k, rfl⟩ : ∃ (y0 : Fin 1) (p : Fin 512) (k : Fin 128), y = ix3 y0 p k := ⟨y 0, y 1, y 2, by funext a; fin_cases a <;> rfl⟩
  have e0 : ((win0_7.blk t).view.emb (ix3 y0 p k) 0 : Fin 2) = grid0.coords t 0 := Fin.ext (by blk_simp [places t])
  have e1 : ((win0_7.blk t).view.emb (ix3 y0 p k) 1 : Fin 1024) = pixel (grid0.coords t 1) p := Fin.ext (by blk_simp [places t])
  have e2 : ((win0_7.blk t).view.emb (ix3 y0 p k) 2 : Fin 128) = k := Fin.ext (by blk_simp [places t])
  refine (block m c t h y0 p k).trans ?_
  rw [e0, e1, e2]

end Cert.Proof.KernelValue
-- ==== Proof.SortTail.lean ====
module

public import Idealize.ShloMosaic.Lib.SortFacts
public import Mathlib.Algebra.BigOperators.Fin

@[expose] public section

/-!
# The last 128 of 1024 sorted indices

A row holds each chosen index at its own place and 0 elsewhere. Sorted upwards, its last 128 entries are all
the chosen indices and zeros, provided at most 128 are chosen and 0 is not.
-/

noncomputable section

namespace Cert.Proof.SortTail

open Idealize.ShloMosaic

theorem slt_ofNat {a b : ℕ} (ha : a < 1024) (hb : b < 1024) :
    (IntOp.cmpi .slt (BitVec.ofNat 32 a) (BitVec.ofNat 32 b) == 1#1) = decide (a < b) := by
  have e : ∀ {a : ℕ}, a < 1024 → (BitVec.ofNat 32 a).toInt = (a : ℤ) := fun {a} h => by
    rw [BitVec.toInt_eq_toNat_of_lt (by rw [BitVec.toNat_ofNat]; omega), BitVec.toNat_ofNat, Nat.mod_eq_of_lt (by omega)]
  unfold IntOp.cmpi
  simp only [BitVec.slt, e ha, e hb, Int.ofNat_lt]
  by_cases h : a < b <;> simp [h]

/-- The place that sorted position `896 + j` takes its entry from. -/
def source (g : Fin 1024 → BitVec 32) (j : Fin 128) : Fin 1024 :=
  sortedFrom (fun k k' => IntOp.cmpi .slt (g k) (g k') == 1#1) ⟨896 + j.val, by omega⟩

variable (A : Finset (Fin 1024)) (g : Fin 1024 → BitVec 32)

/-- Before the last 128 positions no chosen index occurs. -/
theorem not_mem_of_lt (hA : A.card ≤ 128) (h0 : ∀ s ∈ A, s.val ≠ 0)
    (hg : ∀ s, g s = BitVec.ofNat 32 (if s ∈ A then s.val else 0)) (k : Fin 1024) (hk : k.val < 896) :
    sortedFrom (fun k k' => IntOp.cmpi .slt (g k) (g k') == 1#1) k ∉ A := by
  have hlt : ∀ s : Fin 1024, (if s ∈ A then s.val else 0) < 1024 := fun s => by split <;> omega
  have hB : (fun k k' => IntOp.cmpi .slt (g k) (g k') == 1#1)
      = fun k k' : Fin 1024 => decide ((if k ∈ A then k.val else 0) < (if k' ∈ A then k'.val else 0)) := by
    funext k k'
    rw [hg, hg, slt_ofNat (hlt k) (hlt k')]
  rw [hB]
  set B := fun k k' : Fin 1024 => decide ((if k ∈ A then k.val else 0) < (if k' ∈ A then k'.val else 0)) with hBd
  intro hmem
  have hall : ∀ k' : Fin 1024, k ≤ k' → sortedFrom B k' ∈ A := fun k' hkk => by
    rcases hkk.eq_or_lt with rfl | hkk
    · exact hmem
    · have h := sortedFrom_noInversion B B
        (fun a b h => by simp only [hBd, decide_eq_true_eq, decide_eq_false_iff_not] at h ⊢; omega) (fun a b h => h)
        (fun a b c h h' => by simp only [hBd, decide_eq_false_iff_not] at h h' ⊢; omega) k k' hkk
      by_contra hn
      have h := of_decide_eq_false h
      rw [if_pos hmem, if_neg hn] at h
      exact h0 _ hmem (by omega)
  have hc : (Finset.Ici k).card ≤ A.card :=
    Finset.card_le_card_of_injOn (sortedFrom B) (fun k' hk' => hall k' (Finset.mem_Ici.1 hk')) (sortedFrom_injective B).injOn
  rw [Fin.card_Ici] at hc
  omega

/-- The entries at the sources of the last 128 positions are the chosen indices, each once, and zeros. -/
theorem sum_source {α : Type*} [AddCommMonoid α] (hA : A.card ≤ 128) (h0 : ∀ s ∈ A, s.val ≠ 0)
    (hg : ∀ s, g s = BitVec.ofNat 32 (if s ∈ A then s.val else 0)) (f : Fin 1024 → α) :
    ∑ j, (if source g j ∈ A then f (source g j) else 0) = ∑ s ∈ A, f s := by
  have e : ∑ s ∈ A, f s = ∑ s, if s ∈ A then f s else 0 := by
    rw [← Finset.sum_filter]; congr 1; ext s; simp
  set π := sortedFrom (fun k k' => IntOp.cmpi .slt (g k) (g k') == 1#1) with hπ
  have hbij : Function.Bijective π := ⟨sortedFrom_injective _, sortedFrom_surjective _⟩
  have hsplit := Fin.sum_univ_add (a := 896) (b := 128) (fun k : Fin (896 + 128) => if π k ∈ A then f (π k) else 0)
  rw [Finset.sum_eq_zero (s := (Finset.univ : Finset (Fin 896)))
    (fun k _ => if_neg (not_mem_of_lt A g hA h0 hg _ k.isLt)), zero_add] at hsplit
  rw [e, ← Function.Bijective.sum_comp hbij (fun s => if s ∈ A then f s else 0)]
  exact hsplit.symm

/-- Every chosen index is the source of one of the last 128 positions. -/
theorem exists_source (hA : A.card ≤ 128) (h0 : ∀ s ∈ A, s.val ≠ 0)
    (hg : ∀ s, g s = BitVec.ofNat 32 (if s ∈ A then s.val else 0)) (s : Fin 1024) (hs : s ∈ A) : ∃ j, source g j = s := by
  obtain ⟨k, hk⟩ := sortedFrom_surjective (fun k k' => IntOp.cmpi .slt (g k) (g k') == 1#1) s
  have h : ¬ k.val < 896 := fun h => not_mem_of_lt A g hA h0 hg k h (hk ▸ hs)
  refine ⟨⟨k.val - 896, by omega⟩, ?_⟩
  have hk' : (⟨896 + (k.val - 896), by omega⟩ : Fin 1024) = k := Fin.ext (show 896 + (k.val - 896) = k.val by omega)
  rw [source, hk', hk]

end Cert.Proof.SortTail
-- ==== Proof.RefLines.lean ====
module

public import proofs.«01_k».proof.Proof.Gen.ReferenceIdeal.Run
public import proofs.«01_k».proof.Proof.Small
public import proofs.«01_k».proof.Proof.SortTail
public import Idealize.ShloMosaic.Lib.Pointwise
public import Idealize.ShloMosaic.Lib.Tactic.CleanTypes

@[expose] public section

/-! # The reference's epipolar lines, and the row of indices it sorts -/

noncomputable section

namespace Cert.Proof.RefLines

open Cert.ReferenceIdeal Cert.ReferenceIdeal.Gen Cert.ReferenceIdeal.Value
open Cert.Proof.Spec Cert.Proof.Reals
open Idealize.ShloMosaic Idealize.ShloMosaic.TcCoe Idealize.ShloMosaic.Tactic Idealize.ShloMosaic.StableHlo

variable (V0 : Valuation τ sig (Elt Ideal))

/-- The fundamental matrix of pair `n`, of the reference's arguments. -/
def F (n : Fin 2) : Mat :=
  fund (Small.mat (V0 (Proc.tc.devRef main_arg3)) n) (Small.mat (V0 (Proc.tc.devRef main_arg4)) n)
    (Small.mat (V0 (Proc.tc.devRef main_arg5)) n) (Small.vec (V0 (Proc.tc.devRef main_arg6)) n)

theorem second_cof (n : Fin 2) (i j : Fin 3) :
    (res_main_v55 V0 : FVec Ideal S2x3x3 .f32) (ix3 n i j) = (cof (Small.mat (V0 (Proc.tc.devRef main_arg4)) n) i j : EReal) := by
  unfold res_main_v55 res_main_v48 res_main_v47
  clean_types
  pointwise
  fin_cases i <;> fin_cases j <;> rfl

theorem first_cof (n : Fin 2) (i j : Fin 3) :
    (res_main_v77 V0 : FVec Ideal S2x3x3 .f32) (ix3 n i j) = (cof (Small.mat (V0 (Proc.tc.devRef main_arg3)) n) i j : EReal) := by
  unfold res_main_v77 res_main_v70 res_main_v69
  clean_types
  pointwise
  fin_cases i <;> fin_cases j <;> rfl

theorem zeros (n : Fin 2) : (res_main_v14 V0 : FVec Ideal S2 .f32) (ix1 n) = (0 : EReal) := by
  unfold res_main_v14
  clean_types
  pointwise

theorem lines (n : Fin 2) (l : Fin 1024) (j : Fin 3) :
    (res_main_v93 V0 : FVec Ideal S2x1024x3 .f32) (ix3 n l j) = (line (F V0 n) j l : EReal) := by
  unfold res_main_v93 res_main_v92
  clean_types
  pointwise
  simp only [Fin.sum_univ_one, Small.sitofp_ofNat (show l.val % 32 < 1024 by omega), Small.sitofp_ofNat (show l.val / 32 < 1024 by omega),
    second_cof, first_cof, zeros, Small.skew_entry _ _ _ (Small.vec (V0 (Proc.tc.devRef main_arg6)) n) rfl rfl rfl]
  rfl

theorem columns (s : Fin 1024) : (res_main_v122 V0 : FVec Ideal S1x1x1024 .f32) (ix3 0 0 s) = (px s : EReal) := by
  unfold res_main_v122 res_main_v110
  clean_types
  pointwise
  rw [Small.sitofp_ofNat (by omega)]
  rfl

theorem rows (s : Fin 1024) : (res_main_v125 V0 : FVec Ideal S1x1x1024 .f32) (ix3 0 0 s) = (py s : EReal) := by
  unfold res_main_v125 res_main_v110
  clean_types
  pointwise
  rw [Small.sitofp_ofNat (by omega)]
  rfl

theorem column_quotient (n : Fin 2) (l s : Fin 1024) :
    (res_main_v133 V0 : FVec Ideal S2x1024x1024 .f32) (ix3 n l s)
      = (Ideal.div (-(line (F V0 n) 0 l * px s + line (F V0 n) 2 l)) (line (F V0 n) 1 l) : EReal) := by
  have hc := columns V0 s
  unfold res_main_v133 res_main_v113 res_main_v116 res_main_v119
  clean_types
  pointwise
  rw [lines, lines, lines, hc]

theorem row_quotient (n : Fin 2) (l s : Fin 1024) :
    (res_main_v141 V0 : FVec Ideal S2x1024x1024 .f32) (ix3 n l s)
      = (Ideal.div (-(line (F V0 n) 1 l * py s + line (F V0 n) 2 l)) (line (F V0 n) 0 l) : EReal) := by
  have hc := rows V0 s
  unfold res_main_v141 res_main_v113 res_main_v116 res_main_v119
  clean_types
  pointwise
  rw [lines, lines, lines, hc]

/-- The pixels that query `l` of pair `n` attends to. -/
def allowed (n : Fin 2) (l : Fin 1024) : Finset (Fin 1024) := near (line (F V0 n) 0 l) (line (F V0 n) 1 l) (line (F V0 n) 2 l)

/-- The row the reference sorts: each attended pixel's number at its place, 0 elsewhere. -/
def row (n : Fin 2) (l : Fin 1024) (s : Fin 1024) : BitVec 32 := BitVec.ofNat 32 (if s ∈ allowed V0 n l then s.val else 0)

/-- The pixel behind the reference's candidate `j`. -/
def pick (n : Fin 2) (l : Fin 1024) (j : Fin 128) : Fin 1024 := SortTail.source (row V0 n l) j

theorem sort_last (X : S2x1024x1024.Idx → BitVec 32) (n : Fin 2) (l : Fin 1024) (g : Fin 1024 → BitVec 32) (hX : ∀ s, X (ix3 n l s) = g s)
    (k : Fin 1024) : Host.sort S2x1024x1024 2 comparator_i32_d2 X (ix3 n l k)
      = g (sortedFrom (fun k k' => IntOp.cmpi .slt (g k) (g k') == 1#1) k) := by
  have ha : ∀ k' : Fin 1024, (ix3 n l k : S2x1024x1024.Idx).along (2 : Fin 3) k' = ix3 n l k' := fun k' => by
    funext i
    fin_cases i <;> rfl
  have e : g = fun s => X ((ix3 n l k : S2x1024x1024.Idx).along (2 : Fin 3) s) := funext fun s => by rw [ha, hX]
  rw [e]
  rfl

theorem select_place (p q r P : Prop) [Decidable p] [Decidable q] [Decidable r] [Decidable P] (k : ℕ) (hP : P ↔ k ≠ 0 ∧ if p then q else r) :
    Scalar.select (if p then BitVec.ofBool (decide q) else BitVec.ofBool (decide r)) (BitVec.ofNat 32 k) 0#32
      = BitVec.ofNat 32 (if P then k else 0) := by
  by_cases hk : k = 0
  · subst hk
    have : ∀ b : BitVec 1, Scalar.select b (BitVec.ofNat 32 0) 0#32 = 0#32 := by decide
    rw [this]; simp
  · by_cases hp : p <;> by_cases hq : q <;> by_cases hr : r <;> simp [hk, hp, hq, hr, hP, Scalar.select]

theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem sorted (n : Fin 2) (l : Fin 1024) (j : Fin 128) :
    (res_main_v166 V0 : IVec S2x1024x128 32) (ix3 n l j) = (row V0 n l (pick V0 n l j) : BitVec 32) := by
  have hc := columns V0
  have hr := rows V0
  have hq := column_quotient V0 n l
  have hp := row_quotient V0 n l
  unfold res_main_v166
  clean_types
  pointwise
  refine sort_last _ n l (row V0 n l) (fun s => ?_) _
  pointwise
  rw [hc, hr, hq, hp, lines, lines, andi_ofBool, andi_ofBool, two_bits]
  classical
  have hs : s ∈ allowed V0 n l ↔ s.val ≠ 0 ∧ Near (line (F V0 n) 0 l) (line (F V0 n) 1 l) (line (F V0 n) 2 l) s := mem_near _ _ _ s
  exact select_place _ _ _ _ s.val hs

end Cert.Proof.RefLines
-- ==== Proof.RefValue.lean ====
module

public import proofs.«01_k».proof.Proof.RefLines
public import proofs.«01_k».proof.Proof.Softmax
public import proofs.«01_k».proof.Proof.Mask
public import Idealize.ShloMosaic.Lib.Routing.OpsOrder

@[expose] public section

/-! # The reference's result, entry by entry -/

noncomputable section

namespace Cert.Proof.RefValue

open Cert.ReferenceIdeal Cert.ReferenceIdeal.Gen Cert.ReferenceIdeal.Value
open Cert.Proof.Spec Cert.Proof.Reals Cert.Proof.RefLines
open Idealize.ShloMosaic Idealize.ShloMosaic.TcCoe Idealize.ShloMosaic.Tactic Idealize.ShloMosaic.StableHlo

/-- The candidates' rows of a table: where the indices name pair `b` and pixel `s`, the table's row there. -/
theorem gather_entry (x : S2x1024x4x32.Idx → EReal) (idx : IVec S2x1024x128x2 32) (n : Fin 2) (l : Fin 1024) (j : Fin 128)
    (h : Fin 4) (d : Fin 32) (b : Fin 2) (s : Fin 1024) (h0 : idx (ix4 n l j 0) = BitVec.ofNat 32 b.val)
    (h1 : idx (ix4 n l j 1) = BitVec.ofNat 32 s.val) :
    Host.gather gather_S2x1024x4x32_S2x1024x128x2_S2x1024x128x4x32_34_01_n_n_01_3_11432 x idx (ix5 n l j h d) = x (ix4 b s h d) := by
  have e : ∀ {k : ℕ}, k < 1024 → (BitVec.ofNat 32 k).toInt = (k : ℤ) := fun {k} h => by
    rw [BitVec.toInt_eq_toNat_of_lt (by rw [BitVec.toNat_ofNat]; omega), BitVec.toNat_ofNat, Nat.mod_eq_of_lt (by omega)]
  set D := gather_S2x1024x4x32_S2x1024x128x2_S2x1024x128x4x32_34_01_n_n_01_3_11432 with hD
  have s0 : D.siIdx (ix5 n l j h d) (0 : Fin 2) = ix4 n l j 0 := by
    funext i; fin_cases i <;> rfl
  have s1 : D.siIdx (ix5 n l j h d) (1 : Fin 2) = ix4 n l j 1 := by
    funext i; fin_cases i <;> rfl
  unfold Host.gather
  refine congrArg x (funext fun a => Fin.ext ?_)
  fin_cases a
  · show min (idx (D.siIdx (ix5 n l j h d) (0 : Fin 2))).toInt.toNat 1 + 0 + 0 = b.val
    rw [s0, h0, e (by omega)]; omega
  · show min (idx (D.siIdx (ix5 n l j h d) (1 : Fin 2))).toInt.toNat 1023 + 0 + 0 = s.val
    rw [s1, h1, e (by omega)]; omega
  · show 0 + 0 + h.val = h.val
    omega
  · show 0 + 0 + d.val = d.val
    omega

variable (V0 : Valuation τ sig (Elt Ideal))

open Classical in
/-- The pixel candidate `j` reads: the one behind it, or pixel 0 when that one is not attended to. -/
def spot (n : Fin 2) (l : Fin 1024) (j : Fin 128) : Fin 1024 := if pick V0 n l j ∈ allowed V0 n l then pick V0 n l j else 0

theorem sorted_spot (n : Fin 2) (l : Fin 1024) (j : Fin 128) :
    (res_main_v166 V0 : IVec S2x1024x128 32) (ix3 n l j) = (BitVec.ofNat 32 (spot V0 n l j).val : BitVec 32) := by
  rw [sorted]
  unfold row spot
  by_cases h : pick V0 n l j ∈ allowed V0 n l
  · rw [if_pos h, if_pos h]
  · rw [if_neg h, if_neg h]; rfl

theorem allowed_ne_zero (n : Fin 2) (l s : Fin 1024) (hs : s ∈ allowed V0 n l) : s.val ≠ 0 := ((mem_near _ _ _ s).1 hs).1

open Classical in
theorem valid (n : Fin 2) (l : Fin 1024) (j : Fin 128) :
    (res_main_v168 V0 : IVec S2x1024x128 1) (ix3 n l j) = (BitVec.ofBool (decide (pick V0 n l j ∈ allowed V0 n l)) : BitVec 1) := by
  unfold res_main_v168
  clean_types
  pointwise
  rw [sorted_spot]
  unfold spot
  by_cases h : pick V0 n l j ∈ allowed V0 n l
  · have h0 := allowed_ne_zero V0 n l _ h
    rw [if_pos h, decide_eq_true h]
    unfold IntOp.cmpi
    have : BitVec.ofNat 32 (pick V0 n l j).val ≠ 0#32 := fun e => h0 (by
      have := congrArg BitVec.toNat e
      rw [BitVec.toNat_ofNat] at this
      have hlt := (pick V0 n l j).isLt
      simp only [BitVec.toNat_zero, BitVec.toNat_ofNat] at this
      omega)
    show BitVec.ofBool (_ != _) = BitVec.ofBool true
    rw [bne_iff_ne.2 this]
  · rw [if_neg h, decide_eq_false h]; rfl

/-- An index that is not negative needs no wrapping. -/
theorem wrap {k : ℕ} (hk : k < 1024) (w : BitVec 32) :
    Scalar.select (IntOp.cmpi .slt (BitVec.ofNat 32 k) 0#32) w (BitVec.ofNat 32 k) = BitVec.ofNat 32 k := by
  have h : (BitVec.ofNat 32 k).slt 0#32 = false := by
    rw [BitVec.slt, BitVec.toInt_eq_toNat_of_lt (by rw [BitVec.toNat_ofNat]; omega), BitVec.toNat_ofNat]
    simp
    omega
  unfold IntOp.cmpi
  rw [h]; rfl

theorem pair_index (n : Fin 2) : (res_main_v173 V0 : IVec S2x1x1 32) (ix3 n 0 0) = (BitVec.ofNat 32 n.val : BitVec 32) := by
  unfold res_main_v173
  clean_types
  pointwise

theorem select_true (x y : EReal) : Scalar.select (BitVec.ofBool true) x y = x := rfl

theorem select_false (x y : EReal) : Scalar.select (BitVec.ofBool false) x y = y := rfl

open Classical in
/-- The logit of candidate `j`: its scaled score, or `⊥` when it is not attended to. -/
theorem logit (n : Fin 2) (l : Fin 1024) (j : Fin 128) (h : Fin 4) :
    (res_main_v209 V0 : FVec Ideal S2x1024x128x4 .f32) (ix4 n l j h)
      = (Ideal.ofBits .f32 0x3E3504F3#32 * (if pick V0 n l j ∈ allowed V0 n l then
          Small.score (V0 (Proc.tc.devRef main_arg0)) (V0 (Proc.tc.devRef main_arg1)) n h l (pick V0 n l j) else ⊥) : EReal) := by
  have hv := valid V0 n l j
  unfold res_main_v209
  clean_types
  pointwise
  simp (disch := (pointwise; first | (rw [pair_index]; exact wrap (by omega) _) | (rw [sorted_spot]; exact wrap (Fin.isLt _) _))) only
    [gather_entry _ _ n l j _ _ n (spot V0 n l j)]
  pointwise
  rw [hv]
  unfold spot Small.score
  by_cases hm : pick V0 n l j ∈ allowed V0 n l
  · rw [decide_eq_true hm, if_pos hm, if_pos hm, select_true]
    refine congrArg _ (Finset.sum_congr rfl fun x _ => mul_comm _ _)
  · rw [decide_eq_false hm, select_false, if_neg hm]
    refine congrArg _ ?_
    exact ninf_bits

theorem zero_word : (id (constant (F := Ideal) S_ .f32 0x00000000#32) ix0) = (0 : EReal) := Ideal.ofBits_zero .f32

/-- The logit of candidate `j`, as the program's array holds it. -/
def lg (n : Fin 2) (l : Fin 1024) (h : Fin 4) (j : Fin 128) : EReal :=
  (res_main_v209 V0 : FVec Ideal S2x1024x128x4 .f32) (ix4 n l j h)

/-- Its exponential, as the program's array holds it. -/
def wt (n : Fin 2) (l : Fin 1024) (h : Fin 4) (j : Fin 128) : EReal :=
  (res_main_v216 V0 : FVec Ideal S2x1024x128x4 .f32) (ix4 n l j h)

/-- The greatest logit, as the reference takes it. -/
def top (n : Fin 2) (l : Fin 1024) (h : Fin 4) : EReal :=
  max ⊥ (Finset.fold max ⊥ (lg V0 n l h) Finset.univ)

theorem weight (n : Fin 2) (l : Fin 1024) (h : Fin 4) (j : Fin 128) : wt V0 n l h j = Ideal.exp (lg V0 n l h j - top V0 n l h) := by
  unfold wt res_main_v216 top lg
  clean_types
  pointwise
  rw [ninf_bits]

theorem temp_mul_bot : Ideal.ofBits .f32 0x3E3504F3#32 * ⊥ = ⊥ := by
  rw [temp_bits]; exact EReal.coe_mul_bot_of_pos (by norm_num)

open Classical in
/-- The candidates' weighted rows add to the answer. -/
theorem total (n : Fin 2) (l : Fin 1024) (y : Fin 128) (hl : ∀ j, ∃ r : ℝ, line (F V0 n) j l = r)
    (hs : ∀ h s, ∃ r : ℝ, Small.score (V0 (Proc.tc.devRef main_arg0)) (V0 (Proc.tc.devRef main_arg1)) n h l s = r)
    (u : Fin 128 → EReal) (hu : ∀ j, u j = Small.entry (V0 (Proc.tc.devRef main_arg2)) n (spot V0 n l j) y) (h : Fin 4) (hh : h = ⟨y.val / 32, by omega⟩)  :
    ∑ j, Scalar.select (Finset.fold IntOp.ori (0#1 : BitVec 1) (fun x => (res_main_v168 V0 : IVec S2x1024x128 1) (ix3 n l x)) Finset.univ)
        (Ideal.div (wt V0 n l h j) (∑ j, wt V0 n l h j)) 0 * u j
      = Small.answer (allowed V0 n l) (V0 (Proc.tc.devRef main_arg0)) (V0 (Proc.tc.devRef main_arg1))
          (V0 (Proc.tc.devRef main_arg2)) n l y := by
  subst hh
  obtain ⟨a, ha⟩ := hl 0
  obtain ⟨b, hb⟩ := hl 1
  obtain ⟨c, hc⟩ := hl 2
  have hcard : (allowed V0 n l).card ≤ 128 := by
    unfold allowed; rw [ha, hb, hc]; exact Mask.card_near a b c
  choose r hr using hs
  have ht := temp_bits
  simp only [weight]
  unfold top
  refine Softmax.attend_candidates (allowed V0 n l) _ _
    (fun s => (11863283 / 67108864 : ℝ) * r ⟨y.val / 32, by omega⟩ s) (pick V0 n l)
    (SortTail.sum_source (allowed V0 n l) (row V0 n l) hcard (allowed_ne_zero V0 n l) fun s => rfl)
    (fun s _ => ?_) _ u (fun j => ?_) (fun j hj => ?_) _ ?_
    (SortTail.exists_source (allowed V0 n l) (row V0 n l) hcard (allowed_ne_zero V0 n l) fun s => rfl)
  · rw [hr, temp_bits, ← EReal.coe_mul]
  · rw [lg, logit]
    split
    · rfl
    · exact temp_mul_bot
  · rw [hu, spot, if_pos hj]
  · rw [Routing.fold_ori]
    refine ⟨fun ⟨j, _, hj⟩ => ⟨j, ?_⟩, fun ⟨j, hj⟩ => ⟨j, Finset.mem_univ _, ?_⟩⟩
    · rw [valid] at hj
      by_contra hn
      rw [decide_eq_false hn] at hj
      exact absurd hj (by decide)
    · rw [valid, decide_eq_true hj]; rfl

/-- The reference's run: its result is the problem's answer, and the arguments stay as they were. -/
theorem result (m : (ℓ : Loc nD τ sig) → Buf (Elt Ideal) ℓ) (ρ : Dev nD → PrngReg)
    (hl : ∀ c n l j, ∃ r : ℝ, line (F (launchContents m c) n) j l = r)
    (hs : ∀ c n h l s, ∃ r : ℝ, Small.score (launchContents m c (Proc.tc.devRef main_arg0)) (launchContents m c (Proc.tc.devRef main_arg1)) n h l s = r) :
    θ_run (defs (F := Ideal)) (onTc (τ := τ) (main (F := Ideal))) ⟨m, fun _ => 0, ρ⟩ fun r => ∀ c : Dev nD,
      r.2.mem ((c.tc : Thread nD τ).loc main_v225) = (fun i => Small.answer (allowed (launchContents m c) (i 0) (i 1))
        (launchContents m c (Proc.tc.devRef main_arg0)) (launchContents m c (Proc.tc.devRef main_arg1))
          (launchContents m c (Proc.tc.devRef main_arg2)) (i 0) (i 1) (i 2) : S2x1024x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.ReferenceIdeal.Value.run (F := Ideal) m ρ)
  refine ⟨?_, (h c).2⟩
  rw [(h c).1]
  clear h
  funext i
  have hl := hl c
  have hs := hs c
  generalize launchContents m c = V0 at *
  idx_vars i
  clean_types
  pointwise
  refine Eq.trans ?_ (total V0 i0 i1 i2 (hl i0 i1) (fun h s => hs i0 h i1 s) (fun j => Small.entry (V0 (Proc.tc.devRef main_arg2)) i0 (spot V0 i0 i1 j) i2) (fun j => rfl) ⟨i2.val / 32, by omega⟩ rfl)
  refine Finset.sum_congr rfl fun j _ => ?_
  refine congrArg₂ (· * ·) ?_ ?_
  · pointwise
    exact congrArg _ zero_word
  · rw [gather_entry _ _ i0 i1 j _ _ i0 (spot V0 i0 i1 j)]
    · pointwise
    · pointwise; rw [pair_index]; exact wrap (by omega) _
    · pointwise; rw [sorted_spot]; exact wrap (Fin.isLt _) _

end Cert.Proof.RefValue
-- ==== Proof.PreRead.lean ====
module

public import proofs.«01_k».proof.Pre_cameras
public import proofs.«01_k».proof.Proof.Spec
public import proofs.«01_k».proof.Proof.Reals
public import proofs.«01_k».proof.Proof.Small
public import Idealize.ShloMosaic.Lib.Pointwise
public import Idealize.ShloMosaic.Lib.ReduceAll
public import Idealize.ShloMosaic.Lib.Tactic.CleanTypes

@[expose] public section

/-! # What the precondition says, entry by entry -/

noncomputable section

namespace Cert.Proof.PreRead

open Cert.Pre_cameras Cert.Proof.Spec Cert.Proof.Reals
open Idealize.ShloMosaic Idealize.ShloMosaic.TcCoe Idealize.ShloMosaic.Tactic Idealize.ShloMosaic.StableHlo

instance shapes : Facts := by constructor <;> decide

theorem and_one {x y : BitVec 1} (h : IntOp.andi x y = 1#1) : x = 1#1 ∧ y = 1#1 := by
  revert x y; decide

theorem or_one {x y : BitVec 1} (h : IntOp.ori x y = 1#1) : x = 1#1 ∨ y = 1#1 := by
  revert x y; decide

theorem of_decide_one {p : Prop} [Decidable p] (h : BitVec.ofBool (decide p) = 1#1) : p := by
  by_contra hn
  rw [decide_eq_false hn] at h
  exact absurd h (by decide)

theorem neg390_bits : Ideal.ofBits .f32 0xC3C30000#32 = ((-390 : ℝ) : EReal) := by
  simp [Ideal.ofBits, Ideal.ieee]; rw [← EReal.coe_mul]; norm_num

/-- The last parts: the shift, the lines, and the products of queries and keys. -/
theorem part6 (lines : FVec Ideal S2x1024x3 .f32) (a b c : FVec Ideal S2x1024 .f32) (qk : FVec Ideal S2x4x1024x1024 .f32)
    (t : FVec Ideal S2 .f32) (h : fn_part6 lines a b c qk t ix0 = 1#1) :
    (∀ n, (t (ix1 n) : EReal) < ⊤)
      ∧ (∀ n l j, max (lines (ix3 n l j) : EReal) (-(lines (ix3 n l j))) < ⊤)
      ∧ (∀ n l, (a (ix2 n l) : EReal) ≠ 0 ∨ (2 : EReal) * max (b (ix2 n l)) (-(b (ix2 n l))) ≤ max (c (ix2 n l)) (-(c (ix2 n l))))
      ∧ ∀ n h l s, ((-390 : ℝ) : EReal) ≤ qk (ix4 n h l s) ∧ (qk (ix4 n h l s) : EReal) < ⊤ := by
  dsimp only [fn_part6, fn_part7] at h
  obtain ⟨h, h4⟩ := and_one h
  obtain ⟨h, h3⟩ := and_one h
  obtain ⟨h1, h2⟩ := and_one h
  refine ⟨fun n => ?_, fun n l j => ?_, fun n l => ?_, fun n h l s => ?_⟩
  · have e := of_decide_one (Host.reduce_andi_all _ _ _ _ _ h1 (ix1 n))
    pointwise at e
    rw [inf_bits] at e
    exact e
  · have e := of_decide_one (Host.reduce_andi_all _ _ _ _ _ h2 (ix3 n l j))
    pointwise at e
    rw [inf_bits] at e
    exact e
  · have e := Host.reduce_andi_all _ _ _ _ _ h3 (ix2 n l)
    rcases or_one e with e | e
    · left
      have e := of_decide_one e
      pointwise at e
      exact e
    · right
      have e := of_decide_one e
      pointwise at e
      rw [two_bits] at e
      exact e
  · have e := Host.reduce_andi_all _ _ _ _ _ h4 (ix4 n h l s)
    obtain ⟨e1, e2⟩ := and_one e
    have e1 := of_decide_one e1
    have e2 := of_decide_one e2
    pointwise at e1 e2
    rw [neg390_bits] at e1
    rw [inf_bits] at e2
    exact ⟨e1, e2⟩

/-- What the precondition gives, `F n` being the fundamental matrix of pair `n`. -/
structure Holds (q k : FVec Ideal S2x32x32x128 .f32) (t : FVec Ideal S2x3 .f32) (F : Fin 2 → Mat) : Prop where
  shift : ∀ n, max (t (ix2 n 0) : EReal) (-(t (ix2 n 0))) < ⊤
  finite : ∀ n l j, max (line (F n) j l) (-(line (F n) j l)) < ⊤
  origin : ∀ n l, line (F n) 0 l ≠ 0
    ∨ (2 : EReal) * max (line (F n) 1 l) (-(line (F n) 1 l)) ≤ max (line (F n) 2 l) (-(line (F n) 2 l))
  scores : ∀ n (h : Fin 4) (l s : Fin 1024), ((-390 : ℝ) : EReal) ≤ Small.score q k n h l s ∧ Small.score q k n h l s < ⊤

/-- The parts that build the lines from the product of two matrices. -/
theorem part4 (q k : FVec Ideal S2x32x32x128 .f32) (A B : FVec Ideal S2x3x3 .f32) (t : FVec Ideal S2x3 .f32) (F : Fin 2 → Mat)
    (h : fn_part4 q k t A B ix0 = 1#1) (hF : ∀ n j x, ∑ y : Fin 3, (A (ix3 n j y) : EReal) * B (ix3 n y x) = F n j x) :
    Holds q k t F := by
  dsimp only [fn_part4, fn_part5] at h
  obtain ⟨h3, h4, h5, h6⟩ := part6 _ _ _ _ _ _ h
  clear h
  have e : ∀ (l : Fin 1024) (u v w : EReal),
      u * FloatOps.sitofp (F := Ideal) .f32 (BitVec.ofNat 32 (l.val % 32)) + v * FloatOps.sitofp (F := Ideal) .f32 (BitVec.ofNat 32 (l.val / 32)) + w
        = px l * u + py l * v + w := fun l u v w => by
    rw [Small.sitofp_ofNat (by omega), Small.sitofp_ofNat (by omega), mul_comm u, mul_comm v]; rfl
  refine ⟨fun n => ?_, fun n l j => ?_, fun n l => ?_, fun n h l s => ?_⟩
  · have h := h3 n
    clear h3 h4 h5 h6
    pointwise at h
    exact h
  · have h := h4 n l j
    clear h4 h5 h6
    pointwise at h
    simp only [hF] at h
    rw [e] at h
    exact h
  · have h := h5 n l
    clear h4 h5 h6
    pointwise at h
    simp only [hF] at h
    rw [e, e, e] at h
    exact h
  · have h := h6 n h l s
    clear h4 h5 h6
    pointwise at h
    exact h

variable (q k v : FVec Ideal S2x32x32x128 .f32) (K0 K1 R : FVec Ideal S2x3x3 .f32) (t : FVec Ideal S2x3 .f32) (d : FVec Ideal S1 .f32)

theorem holds (h : fn q k v K0 K1 R t d = fun _ => 1#1) :
    Holds q k t (fun n => fund (Small.mat K0 n) (Small.mat K1 n) (Small.mat R n) (Small.vec t n)) := by
  have h := congrFun h ix0
  dsimp only [fn, fn_part1, fn_part2, fn_part3] at h
  refine part4 _ _ _ _ _ _ h fun n j x => ?_
  clear h
  unfold fund
  refine Finset.sum_congr rfl fun y _ => ?_
  congr 1
  · pointwise
    simp only [Small.column_add_one, Small.column_add_two, Small.cof_row_zero]
    show _ = cof _ _ _ * _
    congr 1
    fin_cases j <;> fin_cases y <;> rfl
  · pointwise
    refine Finset.sum_congr rfl fun z _ => ?_
    congr 1
    · refine Finset.sum_congr rfl fun w _ => ?_
      rw [Small.skew_entry _ _ _ (Small.vec t n) rfl rfl rfl]
    · simp only [Small.column_add_one, Small.column_add_two, Small.cof_row_zero]
      show _ = cof _ _ _ * _
      congr 1
      fin_cases x <;> fin_cases z <;> rfl

end Cert.Proof.PreRead
-- ==== Proof.Algebraic.lean ====
module

public import proofs.«01_k».proof.Defs
public import proofs.«01_k».proof.Proof.KernelValue
public import proofs.«01_k».proof.Proof.RefValue
public import proofs.«01_k».proof.Proof.PreRead

@[expose] public section

/-! # The kernel and the reference give the same result -/

noncomputable section

namespace Cert.Proof.Algebraic

open Cert.Proof.Spec Cert.Proof.Reals
open Idealize.ShloMosaic Idealize.ShloMosaic.TcCoe Idealize.ShloMosaic.StableHlo Idealize.SL.Sem

/-- The precondition read as facts of the kernel's arguments. -/
theorem tame (m : (ℓ : Loc Cert.KernelIdeal.nD Cert.KernelIdeal.τ Cert.KernelIdeal.sig) → Buf (Elt Ideal) ℓ)
    (h : Cert.Pre_KernelIdeal_cameras m) (c : Dev Cert.KernelIdeal.nD) : KernelValue.Tame m c := by
  have H := PreRead.holds _ _ _ _ _ _ _ _ (h c)
  exact
    { shift := fun n => exists_real_of_abs_lt (H.shift n)
      finite := fun n l j => exists_real_of_abs_lt (H.finite n l j)
      origin := H.origin
      scores := fun n h l s => exists_real (H.scores n h l s).1 (H.scores n h l s).2 }

theorem fund_congr (n : Fin 2) {a a' b b' r r' : Small.Mats} {t t' : (⟨2, ![2, 3]⟩ : Shape).Idx → EReal}
    (ha : a = a') (hb : b = b') (hr : r = r') (ht : t = t') :
    fund (Small.mat a n) (Small.mat b n) (Small.mat r n) (Small.vec t n) = fund (Small.mat a' n) (Small.mat b' n) (Small.mat r' n) (Small.vec t' n) := by
  rw [ha, hb, hr, ht]

theorem answer_congr (n : Fin 2) (l : Fin 1024) (y : Fin 128) {A A' : Finset (Fin 1024)} {q q' k k' v v' : Small.Field}
    (hA : A = A') (hq : q = q') (hk : k = k') (hv : v = v') : Small.answer A q k v n l y = Small.answer A' q' k' v' n l y := by
  rw [hA, hq, hk, hv]

theorem score_congr (n : Fin 2) (h : Fin 4) (l s : Fin 1024) {q q' k k' : Small.Field} (hq : q = q') (hk : k = k') :
    Small.score q k n h l s = Small.score q' k' n h l s := by
  rw [hq, hk]

/-- Both runs leave the problem's answer. -/
theorem algebraic : Cert.algebraic_KernelIdeal_ReferenceIdeal_pre_cameras := by
  intro m g m' g' hpre hm
  have T := tame m hpre
  have hF : ∀ c n, RefLines.F (launchContents m' c) n = KernelValue.F m c n := fun c n => by
    obtain ⟨_, _, _, e3, e4, e5, e6, _⟩ := hm c
    unfold RefLines.F KernelValue.F
    exact fund_congr n e3 e4 e5 e6
  have hA : ∀ c n l, RefLines.allowed (launchContents m' c) n l = KernelValue.allowed m c n l := fun c n l => by
    unfold RefLines.allowed KernelValue.allowed
    rw [hF]
  refine ⟨fun c => (fun i => Small.answer (KernelValue.allowed m c (i 0) (i 1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1) (i 2)
        : Cert.KernelIdeal.S2x1024x128.Idx → EReal), ?_, ?_⟩
  · refine (θ_run _ _ _).mono (fun r h c => ⟨(h c).1.trans (KernelValue.whole m c (T c)), (h c).2⟩) (Cert.KernelIdeal.Value.run_blocks m g)
  · refine (θ_run _ _ _).mono (fun r h c => ⟨(h c).1.trans ?_, (h c).2⟩) (RefValue.result m' g' (fun c n l j => ?_) (fun c n h l s => ?_))
    · rw [hF]; exact (T c).finite n l j
    · obtain ⟨e0, e1, _⟩ := hm c
      obtain ⟨r, hr, _⟩ := (T c).scores n h l s
      exact ⟨r, (score_congr n h l s e0 e1).trans hr⟩
    · obtain ⟨e0, e1, e2, _⟩ := hm c
      funext i
      exact answer_congr (i 0) (i 1) (i 2) (hA c (i 0) (i 1)) e0 e1 e2

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, PreRead.shapes,
  Frames.kernel, Frames.kernelIdeal, Frames.kernelIdeal_cameras, Frames.reference, Frames.reference_cameras, Frames.preserves, Algebraic.algebraic⟩

end Cert.Proof

end
